-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x256x4x64 .f32 := (extf .f32 · bitsLt_bf16_f32) main_arg2
  let main_v9 : FVec F S2x256x4x64 .f32 := Host.absf main_v8
  let main_cst_1 : FVec F S_ .f32 := constant S_ .f32 0x7F800000#32
  let main_v10 : FVec F S2x256x4x64 .f32 := broadcastInDim S2x256x4x64 ![] bcast_S_S2x256x4x64 main_cst_1
  let main_v11 : IVec S2x256x4x64 1 := cmpf .olt main_v9 main_v10
  (main_v3, main_v7, main_v11)
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x256x512 .bf16) (main_arg1 : FVec F S512x256 .bf16) (main_arg2 : FVec F S2x2048x4x64 .bf16) (main_arg3 : FVec F S2x2048x4x64 .bf16) (main_arg4 : FVec F S256x512 .bf16) : IVec S2x256x512 1 × IVec S512x256 1 × IVec S2x2048x4x64 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x2048x4x64 .f32 := (extf .f32 · bitsLt_bf16_f32) main_arg2
  let main_v9 : FVec F S2x2048x4x64 .f32 := Host.absf main_v8
  let main_cst_1 : FVec F S_ .f32 := constant S_ .f32 0x7F800000#32
  let main_v10 : FVec F S2x2048x4x64 .f32 := broadcastInDim S2x2048x4x64 ![] bcast_S_S2x2048x4x64 main_cst_1
  let main_v11 : IVec S2x2048x4x64 1 := cmpf .olt main_v9 main_v10
  (main_v3, main_v7, main_v11)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S2x256x264 : Shape := ⟨3, ![2, 256, 264]⟩
abbrev S3x2x256x264 : Shape := ⟨4, ![3, 2, 256, 264]⟩
abbrev S3x2 : Shape := ⟨2, ![3, 2]⟩
abbrev S_ : Shape := ⟨0, ![]⟩
abbrev S256x256 : Shape := ⟨2, ![256, 256]⟩
abbrev S1x256x512 : Shape := ⟨3, ![1, 256, 512]⟩
abbrev S256x64 : Shape := ⟨2, ![256, 64]⟩
abbrev S1x256x256 : Shape := ⟨3, ![1, 256, 256]⟩
abbrev S256 : Shape := ⟨1, ![256]⟩
abbrev S256x1 : Shape := ⟨2, ![256, 1]⟩
abbrev S1x256x64 : Shape := ⟨3, ![1, 256, 64]⟩
abbrev S1x256x1 : Shape := ⟨3, ![1, 256, 1]⟩
abbrev S1x1 : Shape := ⟨2, ![1, 1]⟩
abbrev S1x1x256x264 : Shape := ⟨4, ![1, 1, 256, 264]⟩
abbrev S256x264 : Shape := ⟨2, ![256, 264]⟩
abbrev S1x256x264 : Shape := ⟨3, ![1, 256, 264]⟩
abbrev S1x256x260 : Shape := ⟨3, ![1, 256, 260]⟩
abbrev S256x260 : Shape := ⟨2, ![256, 260]⟩
abbrev S1x1x256x260 : Shape := ⟨4, ![1, 1, 256, 260]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x256, .bf16⟩
  | .hbm, ⟨6, _⟩ => ⟨S2x256x256, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .f32⟩
  | .local _ .vmem, ⟨6, _⟩ => ⟨S2x256x264, .bf16⟩
  | .local _ .vmem, ⟨7, _⟩ => ⟨S3x2x256x264, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v199 : BitVec 32 := Scalar.xori v2 c1_i32_96
  let c1_i32_104 : BitVec 32 := 1#32
  let v200 : BitVec 32 := Scalar.muli v199 c1_i32_104
  let v201 : BitVec 32 := Scalar.addi c0_i32_105 v200
  v201.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_183 : BitVec 32 := 4#32
  let v319 : BitVec 32 := Scalar.xori v2 c4_i32_183
  let c1_i32_191 : BitVec 32 := 1#32
  let v320 : BitVec 32 := Scalar.muli v319 c1_i32_191
  let v321 : BitVec 32 := Scalar.addi c0_i32_192 v320
  v321.toNat
def k0_dev6 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_233 : BitVec 32 := 2#32
  let v353 : BitVec 32 := Scalar.xori v2 c2_i32_233
  let c1_i32_241 : BitVec 32 := 1#32
  let v354 : BitVec 32 := Scalar.muli v353 c1_i32_241
  let v355 : BitVec 32 := Scalar.addi c0_i32_242 v354
  v355.toNat
def k0_dev7 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_283 : BitVec 32 := 1#32
  let v387 : BitVec 32 := Scalar.xori v2 c1_i32_283
  let c1_i32_291 : BitVec 32 := 1#32
  let v388 : BitVec 32 := Scalar.muli v387 c1_i32_291
  let v389 : BitVec 32 := Scalar.addi c0_i32_292 v388
  v389.toNat
def k0_dev8 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_333 : BitVec 32 := 4#32
  let v421 : BitVec 32 := Scalar.xori v2 c4_i32_333
  let c1_i32_341 : BitVec 32 := 1#32
  let v422 : BitVec 32 := Scalar.muli v421 c1_i32_341
  let v423 : BitVec 32 := Scalar.addi c0_i32_342 v422
  v423.toNat
def k0_dev9 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_383 : BitVec 32 := 2#32
  let v455 : BitVec 32 := Scalar.xori v2 c2_i32_383
  let c1_i32_391 : BitVec 32 := 1#32
  let v456 : BitVec 32 := Scalar.muli v455 c1_i32_391
  let v457 : BitVec 32 := Scalar.addi c0_i32_392 v456
  v457.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 128
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x256x512, .f32⟩
  | .hbm, ⟨6, _⟩ => ⟨S512x256, .f32⟩
  | .hbm, ⟨7, _⟩ => ⟨S2x2048x4x64, .f32⟩
  | .hbm, ⟨8, _⟩ => ⟨S2x2048x4x64, .f32⟩
  | .hbm, ⟨9, _⟩ => ⟨S256x512, .f32⟩
  | .hbm, ⟨10, _⟩ => ⟨S2x256x256, .f32⟩
  | .hbm, ⟨11, _⟩ => ⟨S2x256x4x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S256x2048, .i32⟩
  | .hbm, ⟨53, _⟩ => ⟨S256x2048, .i32⟩
  | .hbm, ⟨54, _⟩ => ⟨S256x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S256x2048, .i1⟩
  | .hbm, ⟨59, _⟩ => ⟨S256x2048, .i1⟩
  | .hbm, ⟨60, _⟩ => ⟨S256x2048, .i32⟩
  | .hbm, ⟨61, _⟩ => ⟨S256x2048, .i32⟩
  | .hbm, ⟨62, _⟩ => ⟨S256x2048, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S256x2048, .i32⟩
  | .hbm, ⟨70, _⟩ => ⟨S256x2048, .i32⟩
  | .hbm, ⟨71, _⟩ => ⟨S_, .i32⟩
  | .hbm, ⟨72, _⟩ => ⟨S256x2048, .i32⟩
  | .hbm, ⟨73, _⟩ => ⟨S256x2048, .i1⟩
  | .hbm, ⟨74, _⟩ => ⟨S_, .i32⟩
  | .hbm, ⟨75, _⟩ => ⟨S256x2048, .i32⟩
  | .hbm, ⟨76, _⟩ => ⟨S256x2048, .i1⟩
  | .hbm, ⟨77, _⟩ => ⟨S_, .i32⟩
  | .hbm, ⟨78, _⟩ => ⟨S_, .i1⟩
  | .hbm, ⟨79, _⟩ => ⟨S256x2048, .i1⟩
  | .hbm, ⟨80, _⟩ => ⟨S256x2048, .i1⟩
  | .hbm, ⟨81, _⟩ => ⟨S256x2048, .i1⟩
  | .hbm, ⟨82, _⟩ => ⟨S256x2048, .i32⟩
  | .hbm, ⟨83, _⟩ => ⟨S256x2048, .i32⟩
  | .hbm, ⟨84, _⟩ => ⟨S256x2048, .i32⟩
  | .hbm, ⟨85, _⟩ => ⟨S_, .i32⟩
  | .hbm, ⟨86, _⟩ => ⟨S256x2048, .i32⟩
  | .hbm, ⟨87, _⟩ => ⟨S256x2048, .i1⟩
  | .hbm, ⟨88, _⟩ => ⟨S256x2048, .i1⟩
  | .hbm, ⟨89, _⟩ => ⟨S2x4x256x2048, .f32⟩
  | .hbm, ⟨90, _⟩ => ⟨S_, .f32⟩
  | .hbm, ⟨91, _⟩ => ⟨S2x4x256x2048, .f32⟩
  | .hbm, ⟨92, _⟩ => ⟨S2x4x256x2048, .f32⟩
  | .hbm, ⟨93, _⟩ => ⟨S1x1x256x2048, .i1⟩
  | .hbm, ⟨94, _⟩ => ⟨S_, .f32⟩
  | .hbm, ⟨95, _⟩ => ⟨S_, .f32⟩
  | .hbm, ⟨96, _⟩ => ⟨S2x4x256x2048, .i1⟩
  | .hbm, ⟨97, _⟩ => ⟨S2x4x256x2048, .f32⟩
  | .hbm, ⟨98, _⟩ => ⟨S2x4x256x2048, .f32⟩
  | .hbm, ⟨99, _⟩ => ⟨S_, .f32⟩
  | .hbm, ⟨100, _⟩ => ⟨S2x4x256, .f32⟩
  | .hbm, ⟨101, _⟩ => ⟨S2x4x256x1, .f32⟩
  | .hbm, ⟨102, _⟩ => ⟨S2x4x256x2048, .f32⟩
  | .hbm, ⟨103, _⟩ => ⟨S2x4x256x2048, .f32⟩
  | .hbm, ⟨104, _⟩ => ⟨S2x4x256x2048, .f32⟩
  | .hbm, ⟨105, _⟩ => ⟨S_, .i1⟩
  | .hbm, ⟨106, _⟩ => ⟨S256, .i1⟩
  | .hbm, ⟨107, _⟩ => ⟨S1x1x256x1, .i1⟩
  | .hbm, ⟨108, _⟩ => ⟨S_, .f32⟩
  | .hbm, ⟨109, _⟩ => ⟨S2x4x256, .f32⟩
  | .hbm, ⟨110, _⟩ => ⟨S2x4x256x1, .f32⟩
  | .hbm, ⟨111, _⟩ => ⟨S_, .f32⟩
  | .hbm, ⟨112, _⟩ => ⟨S_, .f32⟩
  | .hbm, ⟨113, _⟩ => ⟨S2x4x256x1, .i1⟩
  | .hbm, ⟨114, _⟩ => ⟨S2x4x256x1, .f32⟩
  | .hbm, ⟨115, _⟩ => ⟨S2x4x256x1, .f32⟩
  | .hbm, ⟨116, _⟩ => ⟨S2x4x256x2048, .f32⟩
  | .hbm, ⟨117, _⟩ => ⟨S2x4x256x2048, .f32⟩
  | .hbm, ⟨118, _⟩ => ⟨S1x1x256x1, .i1⟩
  | .hbm, ⟨119, _⟩ => ⟨S_, .f32⟩
  | .hbm, ⟨120, _⟩ => ⟨S_, .f32⟩
  | .hbm, ⟨121, _⟩ => ⟨S2x4x256x2048, .i1⟩
  | .hbm, ⟨122, _⟩ => ⟨S2x4x256x2048, .f32⟩
  | .hbm, ⟨123, _⟩ => ⟨S2x4x256x2048, .f32⟩
  | .hbm, ⟨124, _⟩ => ⟨S2x4x64x256, .f32⟩
  | .hbm, ⟨125, _⟩ => ⟨S2x256x4x64, .f32⟩
  | .hbm, ⟨126, _⟩ => ⟨S2x256x256, .f32⟩
  | .hbm, ⟨127, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.ProtoKernelIdeal.lean ====
/-
# The all-reduce protocol of the kernel

Eight devices, each holding one accumulator of two batches (`cc0_scratch0`) and six landing slots
(`cc0_scratch1`, three steps by two batches). Six exchanges, numbered `k = 2 * step + batch`: at exchange `k`
device `c` copies its accumulator's batch into slot `k` of the device whose number differs from its own in
bit `pj k`, and adds what it receives from the same device. The three entry signals tell each of the three
partners that the slots it will write are free.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Tactic
public import Idealize.ShloMosaic.Lib.Rounds
public import Idealize.ShloMosaic.Lib.StableHlo
public import Idealize.ShloMosaic.Lib.ValueLayout
public import Idealize.ShloMosaic.Lib.Ring

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The ghost state: the pipeline's and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The hypercube -/

set_option backward.proofsInPublic true in
/-- The partner of `c` across bit `j` of the device number. -/
def pr (j : Fin 3) (c : Dev nD) : Dev nD := ⟨c.val ^^^ (2 ^ j.val), by revert j c; decide⟩

theorem pr_pr (j : Fin 3) (c : Dev nD) : pr j (pr j c) = c := by revert j c; decide

/-- Crossing bit `j`, as a permutation of the devices. -/
def prE (j : Fin 3) : Dev nD ≃ Dev nD := ⟨pr j, pr j, pr_pr j, pr_pr j⟩

/-- The bit crossed at exchange `k`. -/
abbrev pj : Fin 6 → Fin 3 := ![0, 2, 1, 0, 2, 1]
/-- The two exchanges across bit `j`: the earlier, the later. -/
abbrev ka : Fin 3 → Fin 6 := ![0, 2, 1]
abbrev kb : Fin 3 → Fin 6 := ![3, 5, 4]
/-- The batch and the step of exchange `k`. -/
abbrev bo : Fin 6 → Fin 2 := ![0, 1, 0, 1, 0, 1]
abbrev so : Fin 6 → Fin 3 := ![0, 0, 1, 1, 2, 2]

theorem dev1_pr (c : Dev nD) : (⟨k0_dev1 c, k0_dev1_lt c⟩ : Dev nD) = pr 0 c := by revert c; decide
theorem dev2_pr (c : Dev nD) : (⟨k0_dev2 c, k0_dev2_lt c⟩ : Dev nD) = pr 1 c := by revert c; decide
theorem dev3_pr (c : Dev nD) : (⟨k0_dev3 c, k0_dev3_lt c⟩ : Dev nD) = pr 2 c := by revert c; decide
theorem dev4_pr (c : Dev nD) : (⟨k0_dev4 c, k0_dev4_lt c⟩ : Dev nD) = pr (pj 0) c := by revert c; decide
theorem dev5_pr (c : Dev nD) : (⟨k0_dev5 c, k0_dev5_lt c⟩ : Dev nD) = pr (pj 1) c := by revert c; decide
theorem dev6_pr (c : Dev nD) : (⟨k0_dev6 c, k0_dev6_lt c⟩ : Dev nD) = pr (pj 2) c := by revert c; decide
theorem dev7_pr (c : Dev nD) : (⟨k0_dev7 c, k0_dev7_lt c⟩ : Dev nD) = pr (pj 3) c := by revert c; decide
theorem dev8_pr (c : Dev nD) : (⟨k0_dev8 c, k0_dev8_lt c⟩ : Dev nD) = pr (pj 4) c := by revert c; decide
theorem dev9_pr (c : Dev nD) : (⟨k0_dev9 c, k0_dev9_lt c⟩ : Dev nD) = pr (pj 5) c := by revert c; decide

/-! ## The buffers -/

abbrev accM : Memref sig .tc .vmem S2x256x264 .bf16 := Memref.whole cc0_scratch0
abbrev comM : Memref sig .tc .vmem S3x2x256x264 .bf16 := Memref.whole cc0_scratch1

theorem acc_inb (b : Fin 2) : ∀ a, (![b.val, 0, 0] : Fin 3 → ℕ) a + S1x256x264.size a ≤ S2x256x264.size a := by
  revert b; decide
theorem com_inb (k : Fin 6) : ∀ a, (![(so k).val, (bo k).val, 0, 0] : Fin 4 → ℕ) a + S1x1x256x264.size a ≤ S3x2x256x264.size a := by
  revert k; decide

/-- Batch `b` of the accumulator. -/
abbrev accV (b : Fin 2) : Memref sig .tc .vmem S256x264 .bf16 :=
  (accM.slice (Rect.unit (s := S2x256x264) ![b.val, 0, 0] S1x256x264.size (acc_inb b)) (fun _ => rfl)).squeeze S256x264 squeezes_S1x256x264_S256x264
/-- Landing slot `k`. -/
abbrev comV (k : Fin 6) : Memref sig .tc .vmem S256x264 .bf16 :=
  (comM.slice (Rect.unit (s := S3x2x256x264) ![(so k).val, (bo k).val, 0, 0] S1x1x256x264.size (com_inb k)) (fun _ => rfl)).squeeze S256x264 squeezes_S1x1x256x264_S256x264

abbrev AccBuf (F : FTy → Type) (c : Dev nD) : Type := Buf (Elt F) ((c : Thread nD τ).loc cc0_scratch0)
abbrev ComBuf (F : FTy → Type) (c : Dev nD) : Type := Buf (Elt F) ((c : Thread nD τ).loc cc0_scratch1)

/-- Device `c` owns its accumulator's batch `b`, holding `f`. -/
def accPts (b : Fin 2) (c : Dev nD) (f : AccBuf F c) : sProp 𝕄 :=
  (accV b).view.loc (c : Thread nD τ) ↦[(accV b).view.set]{fullShare} f
/-- Landing slot `k` of device `c`, holding `f`. -/
def comPts (k : Fin 6) (c : Dev nD) (f : ComBuf F c) : sProp 𝕄 :=
  (comV k).view.loc (c : Thread nD τ) ↦[(comV k).view.set]{fullShare} f

omit [FloatOps F] in
instance accPts_storable (b : Fin 2) (c : Dev nD) (f) : BI.Storable (upEmb : UEmb _ 𝕄) (accPts (F := F) b c f) := by unfold accPts; infer_instance
omit [FloatOps F] in
instance comPts_storable (k : Fin 6) (c : Dev nD) (f) : BI.Storable (upEmb : UEmb _ 𝕄) (comPts (F := F) k c f) := by unfold comPts; infer_instance

/-! ## The semaphores -/

/-- The runtime's barrier semaphore; the send and receive semaphores of exchange `k`. -/
abbrev barS : Sem sig := (SemArray.scalar (sig.barrier 0 rfl) : Sems sig S_).sem
abbrev sendS (k : Fin 6) : DmaSem sig := ⟨6 + k.val, by have := k.isLt; show 6 + k.val < 18; omega⟩
abbrev recvS (k : Fin 6) : DmaSem sig := ⟨12 + k.val, by have := k.isLt; show 12 + k.val < 18; omega⟩

abbrev barCell (c : Dev nD) : GSem nD τ sig := ((c : Thread nD τ), .reg barS)
abbrev sendCell (k : Fin 6) (c : Dev nD) : GSem nD τ sig := ((c : Thread nD τ), .dma (sendS k))
abbrev recvCell (k : Fin 6) (c : Dev nD) : GSem nD τ sig := ((c : Thread nD τ), .dma (recvS k))

/-- What one copy credits. -/
def N : ℕ := (comV 0).view.dmaCredit
theorem N_pos : 0 < N := View.dmaCredit_pos _ (by decide)
theorem com_credit (k : Fin 6) : (comV k).view.dmaCredit = N := rfl
theorem acc_credit (b : Fin 2) : (accV b).view.dmaCredit = N := by
  show sig.dmaCredit _ _ _ _ _ = sig.dmaCredit _ _ _ _ _
  rfl

/-! ## The contents: partial sums -/

/-- One device's share of one batch: 256 rows of 256 context columns and 4 weight sums. -/
abbrev Blk (F : FTy → Type) : Type := Fin 256 → Fin 260 → Elt F .bf16

abbrev col (j : Fin 260) : Fin 264 := ⟨j.val, by have := j.isLt; omega⟩

/-- The accumulator's batch `b` holds `X` in its first 260 columns. -/
def Holds {c : Dev nD} (b : Fin 2) (X : Blk F) (f : AccBuf F c) : Prop := ∀ i j, f (ix3 b i (col j)) = X i j
/-- Landing slot `k` holds `X` in its first 260 columns. -/
def HoldsC {c : Dev nD} (k : Fin 6) (X : Blk F) (f : ComBuf F c) : Prop := ∀ i j, f (ix4 (so k) (bo k) i (col j)) = X i j

/-- The bit crossed at step `s` of batch `b`. -/
abbrev bitOf (b : Fin 2) (s : ℕ) : Fin 3 := if b = 0 then (if s = 0 then 0 else if s = 1 then 1 else 2) else (if s = 0 then 2 else if s = 1 then 0 else 1)

/-- What device `c`'s accumulator holds of batch `b` after `s` steps, every device starting from its own `B`. -/
def part (B : Fin 2 → Dev nD → Blk F) (b : Fin 2) : ℕ → Dev nD → Blk F
  | 0, c => B b c
  | s + 1, c => fun i j => FloatOps.addf (part B b s c i j) (part B b s (pr (bitOf b s) c) i j)

/-! ## The schedule -/

variable (B : Fin 2 → Dev nD → Blk F)

/-- What the partner across bit `j` hands device `c` with its entry signal: its two landing slots `c` will write. -/
def barPay (j : Fin 3) (c : Dev nD) : sProp 𝕄 :=
  iprop((∃ f, comPts (ka j) (pr j c) f) ∗ (∃ f, comPts (kb j) (pr j c) f)
    ∗ reached ER (recvCell (ka j) (pr j c)) 0 ∗ reached ER (recvCell (kb j) (pr j c)) 0)
/-- What comes back when the outgoing copy of exchange `k` is done: the accumulator's batch. -/
def sendPay (k : Fin 6) (c : Dev nD) : sProp 𝕄 :=
  iprop(∃ f, ⌜Holds (bo k) (part B (bo k) (so k).val c) f⌝ ∗ accPts (bo k) c f)
/-- What the incoming copy of exchange `k` brings: the landing slot, holding the partner's partial sum. -/
def recvPay (k : Fin 6) (c : Dev nD) : sProp 𝕄 :=
  iprop(∃ f, ⌜HoldsC k (part B (bo k) (so k).val (pr (pj k) c)) f⌝ ∗ comPts k c f)

/-- A semaphore's place in the protocol: the barrier, the send or the receive side of an exchange, or outside it. -/
inductive Role where
  | bar | send (k : Fin 6) | recv (k : Fin 6) | other

def role : SemLoc sig → Role
  | .reg q => if q = barS then .bar else .other
  | .dma q => if h : 12 ≤ q.val then .recv ⟨q.val - 12, by have : q.val < 18 := q.isLt; omega⟩
      else if h' : 6 ≤ q.val then .send ⟨q.val - 6, by omega⟩ else .other

theorem role_bar : role (.reg barS) = .bar := rfl
theorem role_send (k : Fin 6) : role (.dma (sendS k)) = .send k := by fin_cases k <;> rfl
theorem role_recv (k : Fin 6) : role (.dma (recvS k)) = .recv k := by fin_cases k <;> rfl

def rDuties : Role → Finset (Fin 3)
  | .bar => Finset.univ | .send _ => {0} | .recv _ => {0} | .other => ∅
def rAmount : Role → ℕ
  | .bar => 1 | _ => N
def rPay (c : Dev nD) (d : Fin 3) : Role → sProp 𝕄
  | .bar => barPay d c | .send k => sendPay B k c | .recv k => recvPay B k c | .other => iprop(emp)

/-- One round: three units on each barrier cell, one duty of a copy's credit on each send and receive cell. -/
def Rd : Rounds.Schedule (GSem nD τ sig) (Fin 3) 𝕄 where
  duties g r := if r = 0 ∧ g.1.2 = .tc then rDuties (role g.2) else ∅
  unitless _ := False
  amount g _ _ := rAmount (role g.2)
  payload g _ d := rPay B g.1.1 d (role g.2)
  amount_pos g _ _ _ := by
    cases role g.2 <;> first | exact N_pos | exact Nat.one_pos

omit [FloatOps F] in
instance barPay_storable (j : Fin 3) (c : Dev nD) : BI.Storable (upEmb : UEmb _ 𝕄) (barPay (F := F) j c) := by
  unfold barPay; infer_instance
instance sendPay_storable (k : Fin 6) (c : Dev nD) : BI.Storable (upEmb : UEmb _ 𝕄) (sendPay B k c) := by
  unfold sendPay; infer_instance
instance recvPay_storable (k : Fin 6) (c : Dev nD) : BI.Storable (upEmb : UEmb _ 𝕄) (recvPay B k c) := by
  unfold recvPay; infer_instance

instance Rd_payload_storable (g : GSem nD τ sig) (r : ℕ) (d : Fin 3) :
    BI.Storable (upEmb : UEmb _ 𝕄) ((Rd B).payload g r d) := by
  show BI.Storable upEmb (rPay B g.1.1 d (role g.2))
  cases role g.2 <;> (dsimp only [rPay]; infer_instance)

section Sched
variable (c : Dev nD) (k : Fin 6)

theorem duties_bar : (Rd B).duties (barCell c) 0 = Finset.univ := by dsimp only [Rd]; exact if_pos ⟨rfl, rfl⟩
theorem duties_send : (Rd B).duties (sendCell k c) 0 = {0} := by
  dsimp only [Rd]; rw [role_send]; exact if_pos ⟨rfl, rfl⟩
theorem duties_recv : (Rd B).duties (recvCell k c) 0 = {0} := by
  dsimp only [Rd]; rw [role_recv]; exact if_pos ⟨rfl, rfl⟩
theorem duties_later (g : GSem nD τ sig) : ∀ r, 1 ≤ r → (Rd B).duties g r = ∅ :=
  fun r hr => by dsimp only [Rd]; rw [if_neg fun h => by omega]

theorem amount_bar (d : Fin 3) : (Rd B).amount (barCell c) 0 d = 1 := rfl
theorem amount_send (d : Fin 3) : (Rd B).amount (sendCell k c) 0 d = N := by dsimp only [Rd]; rw [role_send]; rfl
theorem amount_recv (d : Fin 3) : (Rd B).amount (recvCell k c) 0 d = N := by dsimp only [Rd]; rw [role_recv]; rfl

theorem expect_bar : (Rd B).expect (barCell c) 0 = 3 := by
  unfold Schedule.expect Schedule.amountOf
  rw [duties_bar, Finset.sum_congr rfl fun d _ => amount_bar B c d, Finset.sum_const, Finset.card_univ, Fintype.card_fin, smul_eq_mul]
theorem expect_send : (Rd B).expect (sendCell k c) 0 = N := by
  unfold Schedule.expect Schedule.amountOf; rw [duties_send, Finset.sum_singleton, amount_send]
theorem expect_recv : (Rd B).expect (recvCell k c) 0 = N := by
  unfold Schedule.expect Schedule.amountOf; rw [duties_recv, Finset.sum_singleton, amount_recv]

theorem payload_bar (d : Fin 3) : (Rd B).payload (barCell c) 0 d = barPay d c := rfl
theorem payload_send (d : Fin 3) : (Rd B).payload (sendCell k c) 0 d = sendPay B k c := by
  dsimp only [Rd]; rw [role_send]; rfl
theorem payload_recv (d : Fin 3) : (Rd B).payload (recvCell k c) 0 d = recvPay B k c := by
  dsimp only [Rd]; rw [role_recv]; rfl

theorem rest_bar : bigSep ((Rd B).duties (barCell c) 0 \ ∅) (fun d => (Rd B).payload (barCell c) 0 d) = iprop(barPay 0 c ∗ barPay 1 c ∗ barPay 2 c) := by
  rw [Finset.sdiff_empty, duties_bar, bigSep_univ_eq_bigSepL [0, 1, 2] (by decide) (by decide)]
  rfl
theorem rest_send : bigSep ((Rd B).duties (sendCell k c) 0 \ ∅) (fun d => (Rd B).payload (sendCell k c) 0 d) = sendPay B k c := by
  rw [Finset.sdiff_empty, duties_send, bigSep_singleton, payload_send]
theorem rest_recv : bigSep ((Rd B).duties (recvCell k c) 0 \ ∅) (fun d => (Rd B).payload (recvCell k c) 0 d) = recvPay B k c := by
  rw [Finset.sdiff_empty, duties_recv, bigSep_singleton, payload_recv]

end Sched

/-! ## What each device owes at launch, and the order of the waits -/

abbrev oweR (k : Fin 6) (c : Dev nD) : CellTallies nD τ sig Unit := tallyAt (recvCell k (pr (pj k) c)) () N
abbrev oweB (j : Fin 3) (c : Dev nD) : CellTallies nD τ sig Unit := tallyAt (barCell (pr j c)) () 1

/-- The credits of the last exchanges, paid in order: after all six entries none, before exchange `5` its own, and so on. -/
def owedR5 (c : Dev nD) : CellTallies nD τ sig Unit := 0 + oweR 5 c
def owedR4 (c : Dev nD) : CellTallies nD τ sig Unit := owedR5 c + oweR 4 c
def owedR3 (c : Dev nD) : CellTallies nD τ sig Unit := owedR4 c + oweR 3 c
def owedR2 (c : Dev nD) : CellTallies nD τ sig Unit := owedR3 c + oweR 2 c
def owedR1 (c : Dev nD) : CellTallies nD τ sig Unit := owedR2 c + oweR 1 c
def owedR0 (c : Dev nD) : CellTallies nD τ sig Unit := owedR1 c + oweR 0 c
def owedB2 (c : Dev nD) : CellTallies nD τ sig Unit := owedR0 c + oweB 2 c
def owedB1 (c : Dev nD) : CellTallies nD τ sig Unit := owedB2 c + oweB 1 c
def O₀ (c : Dev nD) : CellTallies nD τ sig Unit := owedB1 c + oweB 0 c

def L (g : GSem nD τ sig) : Finset Unit := if g.1.2 = .tc then {()} else ∅
/-- Barrier cells at 1, the receive cell of exchange `k` at `2 + k`, everything else at 0. -/
def rLevel : Role → ℕ
  | .bar => 1 | .recv k => 2 + k.val | _ => 0
def lv (g : GSem nD τ sig) (_ : Unit) : ℕ := rLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to cells of TensorCores at levels above `n`. -/
def Above (n : ℕ) (O : CellTallies nD τ sig Unit) : Prop := ∀ g u, 0 < O g u → u ∈ L g ∧ n < lv g u

theorem above_zero (n : ℕ) : Above n 0 := fun g u h => absurd h (by simp)
theorem above_add {n : ℕ} {O : CellTallies nD τ sig Unit} {p : Dev nD} {sm : SemLoc sig} {a : ℕ} (hO : Above n O) (h : n < rLevel (role sm)) :
    Above n (O + tallyAt ((p : Thread nD τ), sm) () a) := fun g u hp => by
  rw [Pi.add_apply, Finsupp.add_apply, tallyAt_apply] at hp
  by_cases hg : g = ((p : Thread nD τ), sm) ∧ u = ()
  · obtain ⟨rfl, rfl⟩ := hg
    exact ⟨by rw [L_tc]; exact Finset.mem_singleton_self _, h⟩
  · rw [if_neg hg, Nat.add_zero] at hp; exact hO g u hp

theorem lev_recv (k : Fin 6) : rLevel (role (.dma (recvS k))) = 2 + k.val := by rw [role_recv]; rfl

theorem above5 {n : ℕ} (hn : n < 7) (c : Dev nD) : Above n (owedR5 c) := above_add (above_zero n) (by rw [lev_recv]; exact hn)
theorem above4 {n : ℕ} (hn : n < 6) (c : Dev nD) : Above n (owedR4 c) := above_add (above5 (by omega) c) (by rw [lev_recv]; exact hn)
theorem above3 {n : ℕ} (hn : n < 5) (c : Dev nD) : Above n (owedR3 c) := above_add (above4 (by omega) c) (by rw [lev_recv]; exact hn)
theorem above2 {n : ℕ} (hn : n < 4) (c : Dev nD) : Above n (owedR2 c) := above_add (above3 (by omega) c) (by rw [lev_recv]; exact hn)
theorem above1 {n : ℕ} (hn : n < 3) (c : Dev nD) : Above n (owedR1 c) := above_add (above2 (by omega) c) (by rw [lev_recv]; exact hn)
theorem above0 {n : ℕ} (hn : n < 2) (c : Dev nD) : Above n (owedR0 c) := above_add (above1 (by omega) c) (by rw [lev_recv]; exact hn)
theorem aboveO (c : Dev nD) : Above 0 (O₀ c) :=
  above_add (above_add (above_add (above0 (by decide) c) (by decide)) (by decide)) (by decide)

omit [FloatOps F] in
/-- A wait on `sm` is allowed while everything owed is above its level. -/
theorem mayWait_above (c : Dev nD) (sm : SemLoc sig) (O : CellTallies nD τ sig Unit) (h : Above (rLevel (role sm)) O) :
    (levAts L lv : sProp 𝕄) ⊢ MayWait (c : Thread nD τ) sm () O :=
  MayOwe.of_cut (L := L) (lev := lv) (rLevel (role sm))
    (fun p hp => by rw [Finset.mem_singleton.mp hp, L_tc]; exact Finset.mem_singleton_self _)
    (fun g u hg => (h g u hg).1)
    (fun p hp => by rw [Finset.mem_singleton.mp hp]; exact le_rfl)
    (fun g u hg => (h g u hg).2)

/-! ## The records every device reads -/

/-- Every cell of the protocol: seven kinds per device — the barrier, and per exchange a send and a receive cell. -/
abbrev CellIx : Type := Unit ⊕ (Fin 6 ⊕ Fin 6)
def kcell (ck : Dev nD × CellIx) : GSem nD τ sig := match ck.2 with
  | .inl _ => barCell ck.1 | .inr (.inl k) => sendCell k ck.1 | .inr (.inr k) => recvCell k ck.1

/-- Every cell's invariant, cell `g`'s under the name `K g`. -/
def records (K : GSem nD τ sig → ℕ) : sProp 𝕄 :=
  bigSep Finset.univ (fun ck : Dev nD × CellIx => cellInv ER (Rd B) (K (kcell ck)) (kcell ck))

instance records_persistent (K : GSem nD τ sig → ℕ) : BI.Persistent (records B K) := by unfold records; infer_instance

theorem records_at (K : GSem nD τ sig → ℕ) (ck : Dev nD × CellIx) :
    records B K ⊢ cellInv ER (Rd B) (K (kcell ck)) (kcell ck) := by
  unfold records; exact bigSep_elim (Finset.mem_univ ck)
theorem records_bar (K : GSem nD τ sig → ℕ) (c : Dev nD) : records B K ⊢ cellInv ER (Rd B) (K (barCell c)) (barCell c) :=
  records_at B K (c, .inl ())
theorem records_send (K : GSem nD τ sig → ℕ) (k : Fin 6) (c : Dev nD) : records B K ⊢ cellInv ER (Rd B) (K (sendCell k c)) (sendCell k c) :=
  records_at B K (c, .inr (.inl k))
theorem records_recv (K : GSem nD τ sig → ℕ) (k : Fin 6) (c : Dev nD) : records B K ⊢ cellInv ER (Rd B) (K (recvCell k c)) (recvCell k c) :=
  records_at B K (c, .inr (.inr k))

end Cert.KernelIdeal.Hand
-- ==== Proof.GeoKernelIdeal.lean ====
/-
# Reading and writing the accumulator and the landing slots

The elements of one batch of the accumulator and of one landing slot; what a store through a rectangle of
columns leaves; what a copy of a batch into a slot leaves; what adding a slot into the accumulator leaves.
-/
module

public import proofs.«01_k».proof.Proof.ProtoKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The elements of a batch and of a slot -/

theorem mem_acc {b : Fin 2} {x : S2x256x264.Idx} : x ∈ (accV b).view.set ↔ (x 0).val = b.val := by
  rw [show (accV b).view.set = (Rect.unit (s := S2x256x264) ![b.val, 0, 0] S1x256x264.size (acc_inb b)).set by
    simp only [Memref.view_squeeze, View.set_reshape, Memref.view_slice, Memref.view_whole, View.set_slice_whole]]
  rw [Rect.mem_set_unit]
  constructor
  · intro h
    have h0 : b.val ≤ (x 0).val ∧ (x 0).val < b.val + 1 := h 0
    omega
  · intro h
    have h1 : (x 1).val < 256 := (x 1).isLt
    have h2 : (x 2).val < 264 := (x 2).isLt
    refine Fin.forall_fin_succ.mpr ⟨?_, Fin.forall_fin_two.mpr ⟨?_, ?_⟩⟩
    · show b.val ≤ (x 0).val ∧ (x 0).val < b.val + 1
      omega
    · show 0 ≤ (x 1).val ∧ (x 1).val < 0 + 256
      omega
    · show 0 ≤ (x 2).val ∧ (x 2).val < 0 + 264
      omega

theorem mem_com {k : Fin 6} {x : S3x2x256x264.Idx} :
    x ∈ (comV k).view.set ↔ (x 0).val = (so k).val ∧ (x 1).val = (bo k).val := by
  rw [show (comV k).view.set = (Rect.unit (s := S3x2x256x264) ![(so k).val, (bo k).val, 0, 0] S1x1x256x264.size (com_inb k)).set by
    simp only [Memref.view_squeeze, View.set_reshape, Memref.view_slice, Memref.view_whole, View.set_slice_whole]]
  rw [Rect.mem_set_unit]
  constructor
  · intro h
    have h0 : (so k).val ≤ (x 0).val ∧ (x 0).val < (so k).val + 1 := h 0
    have h1 : (bo k).val ≤ (x 1).val ∧ (x 1).val < (bo k).val + 1 := h 1
    omega
  · intro h
    have h1 : (x 2).val < 256 := (x 2).isLt
    have h2 : (x 3).val < 264 := (x 3).isLt
    refine Fin.forall_fin_succ.mpr ⟨?_, Fin.forall_fin_succ.mpr ⟨?_, Fin.forall_fin_two.mpr ⟨?_, ?_⟩⟩⟩
    · show (so k).val ≤ (x 0).val ∧ (x 0).val < (so k).val + 1
      omega
    · show (bo k).val ≤ (x 1).val ∧ (x 1).val < (bo k).val + 1
      omega
    · show 0 ≤ (x 2).val ∧ (x 2).val < 0 + 256
      omega
    · show 0 ≤ (x 3).val ∧ (x 3).val < 0 + 264
      omega

/-! ## Columns `o … o + n` of batch `b`, loaded and stored -/

theorem mem_accR {b o n : ℕ} {inb : ∀ a, (![b, 0, o] : Fin 3 → ℕ) a + (![1, 256, n] : Fin 3 → ℕ) a ≤ S2x256x264.size a} {x : S2x256x264.Idx} :
    x ∈ (Rect.unit (s := S2x256x264) ![b, 0, o] ![1, 256, n] inb).set ↔ (x 0).val = b ∧ o ≤ (x 2).val ∧ (x 2).val < o + n := by
  rw [Rect.mem_set_unit]
  constructor
  · intro h
    have h0 : b ≤ (x 0).val ∧ (x 0).val < b + 1 := h 0
    have h2 : o ≤ (x 2).val ∧ (x 2).val < o + n := h 2
    omega
  · intro h
    have h1 : (x 1).val < 256 := (x 1).isLt
    refine Fin.forall_fin_succ.mpr ⟨?_, Fin.forall_fin_two.mpr ⟨?_, ?_⟩⟩
    · show b ≤ (x 0).val ∧ (x 0).val < b + 1
      omega
    · show 0 ≤ (x 1).val ∧ (x 1).val < 0 + 256
      omega
    · show o ≤ (x 2).val ∧ (x 2).val < o + n
      omega

theorem accR_sub (b : Fin 2) {o n : ℕ} (inb : ∀ a, (![b.val, 0, o] : Fin 3 → ℕ) a + (![1, 256, n] : Fin 3 → ℕ) a ≤ S2x256x264.size a) :
    accM.view.setOn (Rect.unit (s := S2x256x264) ![b.val, 0, o] ![1, 256, n] inb).toLoadRect.set ⊆ (accV b).view.set := by
  intro x hx
  obtain ⟨y, hy, rfl⟩ := Finset.mem_map.mp hx
  exact mem_acc.mpr (mem_accR.mp hy).1

theorem accW_sub (b : Fin 2) {o n : ℕ} (inb : ∀ a, (![b.val, 0, o] : Fin 3 → ℕ) a + (![1, 256, n] : Fin 3 → ℕ) a ≤ S2x256x264.size a) :
    (accM.access (Rect.unit (s := S2x256x264) ![b.val, 0, o] ![1, 256, n] inb)).setOn Finset.univ ⊆ (accV b).view.set := by
  intro x hx
  have hx' : x ∈ ((View.whole cc0_scratch0).slice (Rect.unit (s := S2x256x264) ![b.val, 0, o] ![1, 256, n] inb)).set := hx
  rw [View.set_slice_whole] at hx'
  exact mem_acc.mpr (mem_accR.mp hx').1

theorem emb_accR {b o n : ℕ} (inb : ∀ a, (![b, 0, o] : Fin 3 → ℕ) a + (![1, 256, n] : Fin 3 → ℕ) a ≤ S2x256x264.size a)
    (b' : Fin 2) (hb : b'.val = b) (i : Fin 256) (j : Fin n) (j' : Fin 264) (hj : j'.val = o + j.val) :
    (Rect.unit (s := S2x256x264) ![b, 0, o] ![1, 256, n] inb).emb (ix3 (0 : Fin 1) i j : (⟨3, ![1, 256, n]⟩ : Shape).Idx) = ix3 b' i j' := by
  refine funext (Fin.forall_fin_succ.mpr ⟨?_, Fin.forall_fin_two.mpr ⟨?_, ?_⟩⟩) <;> apply Fin.ext
  · show b + 1 * 0 = b'.val
    omega
  · show 0 + 1 * i.val = i.val
    omega
  · show o + 1 * j.val = j'.val
    omega

omit [FloatOps F] in
theorem read_acc {b o n : ℕ} (inb : ∀ a, (![b, 0, o] : Fin 3 → ℕ) a + (![1, 256, n] : Fin 3 → ℕ) a ≤ S2x256x264.size a)
    (f : (cc0_scratch0 : Ref sig .tc).ty.Contents (Elt F)) (b' : Fin 2) (hb : b'.val = b) (i : Fin 256) (j : Fin n) (j' : Fin 264) (hj : j'.val = o + j.val) :
    accM.view.readAt (Elt F) (Rect.unit (s := S2x256x264) ![b, 0, o] ![1, 256, n] inb).toLoadRect f (ix3 (0 : Fin 1) i j : (⟨3, ![1, 256, n]⟩ : Shape).Idx)
      = f (ix3 b' i j') := by
  rw [← emb_accR inb b' hb i j j' hj]; rfl

omit [FloatOps F] in
/-- A store through columns `o … o + n` of batch `b`, read at one element. -/
theorem write_acc {b o n : ℕ} (inb : ∀ a, (![b, 0, o] : Fin 3 → ℕ) a + (![1, 256, n] : Fin 3 → ℕ) a ≤ S2x256x264.size a)
    (f : (cc0_scratch0 : Ref sig .tc).ty.Contents (Elt F)) (w : (⟨3, ![1, 256, n]⟩ : Shape).Idx → Elt F .bf16) (b' : Fin 2) (i : Fin 256) (j : Fin 264) :
    (accM.access (Rect.unit (s := S2x256x264) ![b, 0, o] ![1, 256, n] inb)).write (Elt F) f w Finset.univ (ix3 b' i j)
      = if h : b'.val = b ∧ o ≤ j.val ∧ j.val < o + n then w (ix3 (0 : Fin 1) i (⟨j.val - o, by omega⟩ : Fin n)) else f (ix3 b' i j) := by
  by_cases h : b'.val = b ∧ o ≤ j.val ∧ j.val < o + n
  · rw [dif_pos h, ← emb_accR inb b' h.1 i ⟨j.val - o, by omega⟩ j (by show j.val = o + (j.val - o); omega)]
    exact View.write_emb_of_mem (v := (View.whole cc0_scratch0).slice (Rect.unit (s := S2x256x264) ![b, 0, o] ![1, 256, n] inb)) f w (Finset.mem_univ _)
  · rw [dif_neg h]
    refine View.write_of_not_mem (v := (View.whole cc0_scratch0).slice (Rect.unit (s := S2x256x264) ![b, 0, o] ![1, 256, n] inb)) f w _ fun hx => h ?_
    have hx' : ix3 b' i j ∈ ((View.whole cc0_scratch0).slice (Rect.unit (s := S2x256x264) ![b, 0, o] ![1, 256, n] inb)).set := hx
    rw [View.set_slice_whole] at hx'
    exact mem_accR.mp hx'

/-! ## The eight stores that fill a batch -/

/-- A block from its four heads' contexts and its four heads' sums. -/
def blkOf (W : Fin 4 → Vec F S1x256x64 .bf16) (S : Fin 4 → Vec F S1x256x1 .bf16) : Blk F := fun i j =>
  if h : j.val < 256 then W ⟨j.val / 64, by omega⟩ (ix3 (0 : Fin 1) i (⟨j.val % 64, Nat.mod_lt _ (by decide)⟩ : Fin 64))
  else S ⟨j.val - 256, by have := j.isLt; omega⟩ (ix3 (0 : Fin 1) i (0 : Fin 1))

/-- The first `n` heads of batch `b` are those of `X`. -/
def Fill {c : Dev nD} (b : Fin 2) (n : ℕ) (X : Blk F) (f : AccBuf F c) : Prop :=
  ∀ i j, (j.val < 64 * n ∨ (256 ≤ j.val ∧ j.val < 256 + n)) → f (ix3 b i (col j)) = X i j

omit [FloatOps F] in
theorem fill_zero {c : Dev nD} (b : Fin 2) (X : Blk F) (f : AccBuf F c) : Fill b 0 X f := fun i j h => by omega
omit [FloatOps F] in
theorem fill_holds {c : Dev nD} {b : Fin 2} {X : Blk F} {f : AccBuf F c} (h : Fill b 4 X f) : Holds b X f := fun i j =>
  h i j (by have := j.isLt; omega)

omit [FloatOps F] in
/-- Storing head `n`'s context and sum extends what is filled by one head. -/
theorem fill_succ {c : Dev nD} {b : Fin 2} {n : ℕ} (hn : n < 4) {W : Fin 4 → Vec F S1x256x64 .bf16} {S : Fin 4 → Vec F S1x256x1 .bf16} {f : AccBuf F c}
    {o o' : ℕ} (ho : o = 64 * n) (ho' : o' = 256 + n)
    (inb : ∀ a, (![b.val, 0, o] : Fin 3 → ℕ) a + (![1, 256, 64] : Fin 3 → ℕ) a ≤ S2x256x264.size a)
    (inb' : ∀ a, (![b.val, 0, o'] : Fin 3 → ℕ) a + (![1, 256, 1] : Fin 3 → ℕ) a ≤ S2x256x264.size a)
    (h : Fill b n (blkOf W S) f) :
    Fill (c := c) b (n + 1) (blkOf W S)
      ((accM.access (Rect.unit (s := S2x256x264) ![b.val, 0, o'] ![1, 256, 1] inb')).write (Elt F)
        ((accM.access (Rect.unit (s := S2x256x264) ![b.val, 0, o] ![1, 256, 64] inb)).write (Elt F) f (W ⟨n, hn⟩) Finset.univ) (S ⟨n, hn⟩) Finset.univ) := by
  subst ho ho'
  intro i j hj
  rw [write_acc, write_acc]
  by_cases h1 : 256 + n ≤ j.val ∧ j.val < 256 + n + 1
  · rw [dif_pos ⟨rfl, h1.1, h1.2⟩]
    unfold blkOf; rw [dif_neg (by omega)]
    have e1 : (⟨j.val - 256, by have := j.isLt; omega⟩ : Fin 4) = ⟨n, hn⟩ := Fin.ext (by show j.val - 256 = n; omega)
    have e2 : (⟨j.val - (256 + n), by omega⟩ : Fin 1) = 0 := Subsingleton.elim _ _
    rw [e1]; exact congrArg (fun z => S ⟨n, hn⟩ (ix3 (0 : Fin 1) i z)) e2
  · rw [dif_neg (fun h' => h1 h'.2)]
    by_cases h2 : 64 * n ≤ j.val ∧ j.val < 64 * n + 64
    · rw [dif_pos ⟨rfl, h2.1, h2.2⟩]
      unfold blkOf; rw [dif_pos (by omega)]
      have e1 : (⟨j.val / 64, by omega⟩ : Fin 4) = ⟨n, hn⟩ := Fin.ext (by show j.val / 64 = n; omega)
      have e2 : (⟨j.val - 64 * n, by omega⟩ : Fin 64) = ⟨j.val % 64, Nat.mod_lt _ (by decide)⟩ := Fin.ext (by show j.val - 64 * n = j.val % 64; omega)
      rw [e1]; exact congrArg (fun z => W ⟨n, hn⟩ (ix3 (0 : Fin 1) i z)) e2
    · rw [dif_neg (fun h' => h2 h'.2)]
      exact h i j (by omega)

/-! ## A copy, and the addition of what it brought -/

theorem emb_accV (b : Fin 2) (i : Fin 256) (j : Fin 264) : (accV b).view.emb (ix2 i j : S256x264.Idx) = ix3 b i j := by
  show (Rect.unit (s := S2x256x264) ![b.val, 0, 0] S1x256x264.size (acc_inb b)).emb (Shape.reshapeEquiv _ (ix2 i j)) = ix3 b i j
  rw [reshapeEquiv_ix2_1ab]
  exact emb_accR _ b rfl i j j (by omega)

theorem emb_comV (k : Fin 6) (i : Fin 256) (j : Fin 264) : (comV k).view.emb (ix2 i j : S256x264.Idx) = ix4 (so k) (bo k) i j := by
  show (Rect.unit (s := S3x2x256x264) ![(so k).val, (bo k).val, 0, 0] S1x1x256x264.size (com_inb k)).emb (Shape.reshapeEquiv _ (ix2 i j)) = _
  rw [reshapeEquiv_ix2_11ab]
  refine funext (Fin.forall_fin_succ.mpr ⟨?_, Fin.forall_fin_succ.mpr ⟨?_, Fin.forall_fin_two.mpr ⟨?_, ?_⟩⟩⟩) <;> apply Fin.ext
  · show (so k).val + 1 * 0 = (so k).val
    omega
  · show (bo k).val + 1 * 0 = (bo k).val
    omega
  · show 0 + 1 * i.val = i.val
    omega
  · show 0 + 1 * j.val = j.val
    omega

omit [FloatOps F] in
/-- A landing slot written with the sender's batch holds what the batch held. -/
theorem landed_holds {c c' : Dev nD} {k : Fin 6} {X : Blk F} {fs : AccBuf F c} (h : Holds (bo k) X fs) (fd : ComBuf F c') :
    HoldsC (c := c') k X ((comV k).view.write (Elt F) fd ((accV (bo k)).view.read (Elt F) fs) Finset.univ) := fun i j => by
  rw [← emb_comV k i (col j)]
  refine (View.write_emb_of_mem (v := (comV k).view) fd _ (Finset.mem_univ _)).trans ?_
  show (accV (bo k)).view.read (Elt F) fs (ix2 i (col j)) = X i j
  rw [View.read_apply]
  show fs ((accV (bo k)).view.emb (ix2 i (col j))) = X i j
  rw [emb_accV]; exact h i j

theorem com_inb' (k : Fin 6) : ∀ a, (![(so k).val, (bo k).val, 0, 0] : Fin 4 → ℕ) a + S1x1x256x260.size a ≤ S3x2x256x264.size a := by
  revert k; decide
theorem acc_inb' (b : Fin 2) : ∀ a, (![b.val, 0, 0] : Fin 3 → ℕ) a + S1x256x260.size a ≤ S2x256x264.size a := by
  revert b; decide

theorem comR_sub (k : Fin 6) :
    comM.view.setOn (Rect.unit (s := S3x2x256x264) ![(so k).val, (bo k).val, 0, 0] S1x1x256x260.size (com_inb' k)).toLoadRect.set ⊆ (comV k).view.set := by
  intro x hx
  obtain ⟨y, hy, rfl⟩ := Finset.mem_map.mp hx
  rw [Rect.mem_set_unit] at hy
  have h0 : (so k).val ≤ (y 0).val ∧ (y 0).val < (so k).val + 1 := hy 0
  have h1 : (bo k).val ≤ (y 1).val ∧ (y 1).val < (bo k).val + 1 := hy 1
  exact mem_com.mpr ⟨by show (y 0).val = _; omega, by show (y 1).val = _; omega⟩

omit [FloatOps F] in
theorem read_com (k : Fin 6) (f : (cc0_scratch1 : Ref sig .tc).ty.Contents (Elt F)) (i : Fin 256) (j : Fin 260) :
    comM.view.readAt (Elt F) (Rect.unit (s := S3x2x256x264) ![(so k).val, (bo k).val, 0, 0] S1x1x256x260.size (com_inb' k)).toLoadRect f
      (ix4 (0 : Fin 1) (0 : Fin 1) i j : S1x1x256x260.Idx) = f (ix4 (so k) (bo k) i (col j)) := by
  refine congrArg f (funext (Fin.forall_fin_succ.mpr ⟨?_, Fin.forall_fin_succ.mpr ⟨?_, Fin.forall_fin_two.mpr ⟨?_, ?_⟩⟩⟩)) <;> apply Fin.ext
  · show (so k).val + 1 * 0 = (so k).val
    omega
  · show (bo k).val + 1 * 0 = (bo k).val
    omega
  · show 0 + 1 * i.val = i.val
    omega
  · show 0 + 1 * j.val = j.val
    omega

/-- The sum of two loaded blocks, element by element. -/
theorem pay50_apply (v : Vec F S1x256x260 .bf16) (w : Vec F S1x1x256x260 .bf16) (i : Fin 256) (j : Fin 260) :
    k0_pay50 v w (ix3 (0 : Fin 1) i j) = FloatOps.addf (v (ix3 (0 : Fin 1) i j)) (w (ix4 (0 : Fin 1) (0 : Fin 1) i j)) := by
  unfold k0_pay50
  refine (shapeCast_ab_1ab_apply _ _ (0 : Fin 1) i j).trans ?_
  refine congrArg₂ FloatOps.addf (shapeCast_1ab_ab_apply _ _ i j) (shapeCast_apply _ _ _ _ ?_)
  rw [Shape.rowMajor_val_four, Shape.rowMajor_val_two]
  show ((0 * 1 + 0) * 256 + i.val) * 260 + j.val = i.val * 260 + j.val
  omega

/-- Adding landing slot `k` into its batch adds the two blocks. -/
theorem add_holds {c : Dev nD} {k : Fin 6} {X Y : Blk F} {f : AccBuf F c} {g : ComBuf F c} (hf : Holds (bo k) X f) (hg : HoldsC k Y g) :
    Holds (c := c) (bo k) (fun i j => FloatOps.addf (X i j) (Y i j))
      ((accM.access (Rect.unit (s := S2x256x264) ![(bo k).val, 0, 0] S1x256x260.size (acc_inb' (bo k)))).write (Elt F) f
        (k0_pay50 (accM.view.readAt (Elt F) (Rect.unit (s := S2x256x264) ![(bo k).val, 0, 0] S1x256x260.size (acc_inb' (bo k))).toLoadRect f)
          (comM.view.readAt (Elt F) (Rect.unit (s := S3x2x256x264) ![(so k).val, (bo k).val, 0, 0] S1x1x256x260.size (com_inb' k)).toLoadRect g)) Finset.univ) := fun i j => by
  refine (write_acc (acc_inb' (bo k)) f _ (bo k) i (col j)).trans ?_
  rw [dif_pos ⟨rfl, Nat.zero_le _, by show j.val < 0 + 260; omega⟩]
  refine (congrArg _ (show _ = ix3 (0 : Fin 1) i j from congrArg (ix3 (0 : Fin 1) i) (Fin.ext (by show j.val - 0 = j.val; omega)))).trans ?_
  rw [pay50_apply, read_com k g i j, hg i j]
  rw [show accM.view.readAt (Elt F) (Rect.unit (s := S2x256x264) ![(bo k).val, 0, 0] S1x256x260.size (acc_inb' (bo k))).toLoadRect f (ix3 (0 : Fin 1) i j) = f (ix3 (bo k) i (col j)) from
    read_acc (acc_inb' (bo k)) f (bo k) rfl i j (col j) (by show j.val = 0 + j.val; omega), hf i j]

end Cert.KernelIdeal.Hand
-- ==== Proof.StepKernelIdeal.lean ====
/-
# One exchange, step by step

The rules of the four things an exchange does — start the copy, wait for it to have left, wait for the
partner's to have come, add it — stated once for exchange `k` at device `c`.
-/
module

public import proofs.«01_k».proof.Proof.GeoKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (B : Fin 2 → Dev nD → Blk F) (K : GSem nD τ sig → ℕ)

/-- Device `c`'s program `p` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on. -/
def owing (c : Dev nD) (O : CellTallies nD τ sig Unit) : sProp 𝕄 := iprop(∃ W, owes (c : Thread nD τ) O W)

/-- Starting the copy of exchange `k`: the batch goes out, the send credit comes, the partner's credit is paid. -/
theorem step_send (k : Fin 6) {α : Type} {Q : α → sProp 𝕄} (c n : Dev nD) (hn : n = pr (pj k) c)
    {hsc : (comV k : Memref sig (Dev.tc n : Thread nD τ).2.kind .vmem S256x264 .bf16).view.ref.isScScratch = false}
    {hsrc : (accV (bo k)).view.WordExact} {hdst : (comV k).view.WordExact}
    {hsem : DmaTarget.Typed .vmem (.dma (recvS k)) (.remote (Dev.tc n : Thread nD τ) (comV k : Memref sig (Dev.tc n : Thread nD τ).2.kind .vmem S256x264 .bf16) (.dma (sendS k)) hsc)}
    {kk : PUnit → Prog (TpuEff nD τ sig (Elt F) Λ₀ .tc) α} (O : CellTallies nD τ sig Unit) :
    iprop(records B K ∗ sendPay B k c ∗ (∃ f, comPts k (pr (pj k) c) f) ∗ owing c (O + oweR k c)
        ∗ dutyTok ER (sendCell k c) 0 0 ∗ reached ER (sendCell k c) 0
        ∗ dutyTok ER (recvCell k (pr (pj k) c)) 0 0 ∗ reached ER (recvCell k (pr (pj k) c)) 0)
      ⊢ iprop(((cred (tallyAt (sendCell k c) () N) ∗ owing c O) -∗ WP c (kk ⟨⟩) Q)
          -∗ WP c (.op (.enqueueDma (accV (bo k)) (.remote (Dev.tc n : Thread nD τ) (comV k) (.dma (sendS k)) hsc) (.dma (recvS k)) hsrc hdst hsem) kk) Q) := by
  subst hn
  unfold sendPay owing
  iintro ⟨#HR, ⟨%fs, %hfs, Hs⟩, ⟨%fd, Hd⟩, ⟨%W, HO⟩, HtS, #HrS, HtR, #HrR⟩ Hk
  unfold accPts comPts
  iapply (Rounds.wp_send_pointsTo 𝒱₀ ER (Rd B) (c : Thread nD τ) none (src := accV (bo k)) (dst := comV k) (sS := .dma (sendS k)) (sem := .dma (recvS k))
    (c' := (pr (pj k) c : Thread nD τ)) (q := fullShare) (fs := fs)
    (κ₁ := K (sendCell k c)) (κ₂ := K (recvCell k (pr (pj k) c)))
    (r₁ := 0) (r₂ := 0) (d₁ := 0) (d₂ := 0) (fd := fd)
    (by rw [duties_send]; exact Finset.mem_singleton_self _) (by rw [duties_recv]; exact Finset.mem_singleton_self _)
    () () N (com_credit k) (amount_send B c k 0) (amount_recv B (pr (pj k) c) k 0) O rfl (W := W)
    (by rw [payload_send]; unfold sendPay accPts; iintro H; iexists fs; isplitr; · (ipureintro; exact hfs)
        iexact H)
    (by rw [payload_recv]; unfold recvPay comPts; rw [pr_pr]; iintro H; iexists _; isplitr
        · ipureintro; exact landed_holds hfs fd
        · iexact H)) $$ [Hs Hd HO HtS HtR]
  · isplitr; · iapply (records_send B K k c); iexact HR
    isplitr; · iapply (records_recv B K k (pr (pj k) c)); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Waiting for the outgoing copy of exchange `k`: the batch comes back, unchanged. -/
theorem step_waitSend (k : Fin 6) {α : Type} {Q : α → sProp 𝕄} (c : Dev nD) {O : CellTallies nD τ sig Unit} (hO : Above 0 O)
    {hs : (comV k).view.WordExact} {hd : (accV (bo k)).view.WordExact}
    {kk : PUnit → Prog (TpuEff nD τ sig (Elt F) Λ₀ .tc) α} :
    iprop(records B K ∗ levAts L lv ∗ cred (tallyAt (sendCell k c) () N) ∗ owing c O ∗ atPos ER (sendCell k c) 0 ∅ 0)
      ⊢ iprop(((sendPay B k c ∗ owing c O ∗ atPos ER (sendCell k c) (0 + 1) ∅ 0) -∗ WP c (kk ⟨⟩) Q)
          -∗ WP c (.op (.waitDma2 (sendS k) (comV k) (accV (bo k)) hs hd) kk) Q) := by
  unfold owing
  iintro ⟨#HR, #Hlev, Hc, ⟨%W, HO⟩, Hat⟩ Hk
  iapply (Rounds.wp_wait_rest_token 𝒱₀ ER (Rd B) (c : Thread nD τ) none (κ := K (sendCell k c))
      (k' := N) (fun Kt => (wpE_waitDma2_eq 𝒱₀ (c : Thread nD τ) none Set.univ Kt).trans (by rw [acc_credit (bo k)])) (Set.mem_univ _) () (O := O) (W := W) (R := 0) (m := 0) (T := ∅)
      ((Nat.zero_add _).trans (expect_send B c k).symm)) $$ [Hc HO Hat]
  · isplitr; · iapply (records_send B K k c); iexact HR
    isplitl [Hc]; · iexact Hc
    isplitl [HO]; · iexact HO
    isplitr; · iapply (mayWait_above c (.dma (sendS k)) O (by rw [role_send]; exact hO)); iexact Hlev
    iexact Hat
  iintro ⟨HO, Hat, -, Hpay⟩
  iapply Hk
  isplitl [Hpay]; · iapply (Entails.of_eq (rest_send B c k)); iexact Hpay
  isplitl [HO]; · iexists _; iexact HO
  iexact Hat

/-- Waiting for the incoming copy of exchange `k`: the landing slot comes, holding the partner's partial sum. -/
theorem step_waitRecv (k : Fin 6) {α : Type} {Q : α → sProp 𝕄} (c : Dev nD) {O : CellTallies nD τ sig Unit} (hO : Above (2 + k.val) O)
    {hs : (accV (bo k)).view.WordExact} {hd : (comV k).view.WordExact}
    {kk : PUnit → Prog (TpuEff nD τ sig (Elt F) Λ₀ .tc) α} :
    iprop(records B K ∗ levAts L lv ∗ cred (tallyAt (recvCell k c) () N) ∗ owing c O ∗ atPos ER (recvCell k c) 0 ∅ 0)
      ⊢ iprop(((recvPay B k c ∗ owing c O ∗ atPos ER (recvCell k c) (0 + 1) ∅ 0) -∗ WP c (kk ⟨⟩) Q)
          -∗ WP c (.op (.waitDma2 (recvS k) (accV (bo k)) (comV k) hs hd) kk) Q) := by
  unfold owing
  iintro ⟨#HR, #Hlev, Hc, ⟨%W, HO⟩, Hat⟩ Hk
  iapply (Rounds.wp_wait_rest_token 𝒱₀ ER (Rd B) (c : Thread nD τ) none (κ := K (recvCell k c))
      (k' := N) (fun Kt => (wpE_waitDma2_eq 𝒱₀ (c : Thread nD τ) none Set.univ Kt).trans (by rw [com_credit k])) (Set.mem_univ _) () (O := O) (W := W) (R := 0) (m := 0) (T := ∅)
      ((Nat.zero_add _).trans (expect_recv B c k).symm)) $$ [Hc HO Hat]
  · isplitr; · iapply (records_recv B K k c); iexact HR
    isplitl [Hc]; · iexact Hc
    isplitl [HO]; · iexact HO
    isplitr; · iapply (mayWait_above c (.dma (recvS k)) O (by rw [lev_recv]; exact hO)); iexact Hlev
    iexact Hat
  iintro ⟨HO, Hat, -, Hpay⟩
  iapply Hk
  isplitl [Hpay]; · iapply (Entails.of_eq (rest_recv B c k)); iexact Hpay
  isplitl [HO]; · iexists _; iexact HO
  iexact Hat

/-- Device `c`'s accumulator holds batch `b`'s partial sum after `s` steps. -/
def accAt (b : Fin 2) (s : ℕ) (c : Dev nD) : sProp 𝕄 := iprop(∃ f, ⌜Holds b (part B b s c) f⌝ ∗ accPts b c f)

theorem sendPay_eq (k : Fin 6) (c : Dev nD) : sendPay B k c = accAt B (bo k) (so k).val c := rfl

theorem part_succ (k : Fin 6) (c : Dev nD) :
    part B (bo k) ((so k).val + 1) c = fun i j => FloatOps.addf (part B (bo k) (so k).val c i j) (part B (bo k) (so k).val (pr (pj k) c) i j) := by
  rw [part]; rw [show bitOf (bo k) (so k).val = pj k by revert k; decide]

/-- Adding what exchange `k` brought: one more step of the partial sum. -/
theorem step_add (k : Fin 6) {α : Type} {Q : α → sProp 𝕄} (c : Dev nD) {P : Vec F S1x256x260 .bf16 → Vec F S1x1x256x260 .bf16 → FVec F S1x256x260 .bf16} (hP : P = k0_pay50)
    {h1 h2 : View.LoadsAt accM.view (Rect.unit (s := S2x256x264) ![(bo k).val, 0, 0] S1x256x260.size (acc_inb' (bo k))).toLoadRect}
    {h3 : View.LoadsAt comM.view (Rect.unit (s := S3x2x256x264) ![(so k).val, (bo k).val, 0, 0] S1x1x256x260.size (com_inb' k)).toLoadRect}
    {h4 : (accM.access (Rect.unit (s := S2x256x264) ![(bo k).val, 0, 0] S1x256x260.size (acc_inb' (bo k)))).Stores Finset.univ} {h5}
    {kk : PUnit → Prog (TpuEff nD τ sig (Elt F) Λ₀ .tc) α} :
    iprop(accAt B (bo k) (so k).val c ∗ recvPay B k c)
      ⊢ iprop(((accAt B (bo k) ((so k).val + 1) c ∗ ∃ f, comPts k c f) -∗ WP c (kk ⟨⟩) Q)
          -∗ WP c (.op (.load accM (Rect.unit (s := S2x256x264) ![(bo k).val, 0, 0] S1x256x260.size (acc_inb' (bo k))).toLoadRect h1) fun v =>
              .op (.load comM (Rect.unit (s := S3x2x256x264) ![(so k).val, (bo k).val, 0, 0] S1x1x256x260.size (com_inb' k)).toLoadRect h3) fun w =>
              .op (.load accM (Rect.unit (s := S2x256x264) ![(bo k).val, 0, 0] S1x256x260.size (acc_inb' (bo k))).toLoadRect h2) fun _ =>
              .op (.store accM (Rect.unit (s := S2x256x264) ![(bo k).val, 0, 0] S1x256x260.size (acc_inb' (bo k))) (P v w) Finset.univ h4 h5) kk) Q) := by
  subst hP
  unfold accAt recvPay accPts comPts
  iintro ⟨⟨%f, %hf, Ha⟩, ⟨%g, %hg, Hc⟩⟩ Hk
  iapply (wp_load 𝒱₀ (c : Thread nD τ) none Set.univ (m := accM) (accR_sub (bo k) (acc_inb' (bo k)))) $$ Ha; iintro Ha
  iapply (wp_load 𝒱₀ (c : Thread nD τ) none Set.univ (m := comM) (comR_sub k)) $$ Hc; iintro Hc
  iapply (wp_load 𝒱₀ (c : Thread nD τ) none Set.univ (m := accM) (accR_sub (bo k) (acc_inb' (bo k)))) $$ Ha; iintro Ha
  iapply (wp_store 𝒱₀ (c : Thread nD τ) none Set.univ (m := accM) (accW_sub (bo k) (acc_inb' (bo k)))) $$ Ha; iintro Ha
  iapply Hk
  isplitl [Ha]
  · iexists _; isplitr
    · ipureintro; rw [part_succ]; exact add_holds hf hg
    · iexact Ha
  · iexists g; iexact Hc

end Cert.KernelIdeal.Hand
-- ==== Proof.PartsKernelIdeal.lean ====
module

public import proofs.«01_k».proof.Proof.StepKernelIdeal

@[expose] public section

noncomputable section

namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## What one device computes before the exchange -/

abbrev xM : Memref sig .tc .vmem S2x256x512 .bf16 := Memref.whole cc0_stg0_0
abbrev qM : Memref sig .tc .vmem S512x256 .bf16 := Memref.whole cc0_stg1_0
abbrev kM : Memref sig .tc .vmem S2x256x256 .bf16 := Memref.whole cc0_stg2_0
abbrev vM : Memref sig .tc .vmem S2x256x256 .bf16 := Memref.whole cc0_stg3_0
abbrev oM : Memref sig .tc .vmem S256x512 .bf16 := Memref.whole cc0_stg4_0
abbrev rM : Memref sig .tc .vmem S2x256x512 .f32 := Memref.whole cc0_stg5_0

/-- What a device's five operands hold. -/
structure Ins (F : FTy → Type) where
  x : (cc0_stg0_0 : Ref sig .tc).ty.Contents (Elt F)
  q : (cc0_stg1_0 : Ref sig .tc).ty.Contents (Elt F)
  k : (cc0_stg2_0 : Ref sig .tc).ty.Contents (Elt F)
  v : (cc0_stg3_0 : Ref sig .tc).ty.Contents (Elt F)
  o : (cc0_stg4_0 : Ref sig .tc).ty.Contents (Elt F)

section Vals
variable (I : Ins F) (c : Dev nD)

/-- The blocks the body reads. -/
def x0 : Vec F S1x256x512 .bf16 := xM.view.readAt (Elt F) (Rect.unit (s := S2x256x512) ![0, 0, 0] S1x256x512.size inb_S2x256x512_S1x256x512_0_0_0).toLoadRect I.x
def x1 : Vec F S1x256x512 .bf16 := xM.view.readAt (Elt F) (Rect.unit (s := S2x256x512) ![1, 0, 0] S1x256x512.size inb_S2x256x512_S1x256x512_1_0_0).toLoadRect I.x
def wq : Vec F S512x256 .bf16 := qM.view.readAt (Elt F) (Rect.unit (s := S512x256) ![0, 0] S512x256.size inb_S512x256_S512x256_0_0).toLoadRect I.q
def k0 : Vec F S1x256x256 .bf16 := kM.view.readAt (Elt F) (Rect.unit (s := S2x256x256) ![0, 0, 0] S1x256x256.size inb_S2x256x256_S1x256x256_0_0_0).toLoadRect I.k
def k1 : Vec F S1x256x256 .bf16 := kM.view.readAt (Elt F) (Rect.unit (s := S2x256x256) ![1, 0, 0] S1x256x256.size inb_S2x256x256_S1x256x256_1_0_0).toLoadRect I.k
def v0 : Vec F S1x256x256 .bf16 := vM.view.readAt (Elt F) (Rect.unit (s := S2x256x256) ![0, 0, 0] S1x256x256.size inb_S2x256x256_S1x256x256_0_0_0).toLoadRect I.v
def v1 : Vec F S1x256x256 .bf16 := vM.view.readAt (Elt F) (Rect.unit (s := S2x256x256) ![1, 0, 0] S1x256x256.size inb_S2x256x256_S1x256x256_1_0_0).toLoadRect I.v
/-- Head `h`'s rows of the output projection. -/
def w0 : Vec F S64x512 .bf16 := oM.view.readAt (Elt F) (Rect.unit (s := S256x512) ![0, 0] S64x512.size inb_S256x512_S64x512_0_0).toLoadRect I.o
def w1 : Vec F S64x512 .bf16 := oM.view.readAt (Elt F) (Rect.unit (s := S256x512) ![64, 0] S64x512.size inb_S256x512_S64x512_64_0).toLoadRect I.o
def w2 : Vec F S64x512 .bf16 := oM.view.readAt (Elt F) (Rect.unit (s := S256x512) ![128, 0] S64x512.size inb_S256x512_S64x512_128_0).toLoadRect I.o
def w3 : Vec F S64x512 .bf16 := oM.view.readAt (Elt F) (Rect.unit (s := S256x512) ![192, 0] S64x512.size inb_S256x512_S64x512_192_0).toLoadRect I.o

/-- The device's place on the mesh axis, as a word. -/
def dw : BitVec 32 := Scalar.remsi (Scalar.divsi (Dev.word c) 1#32) 8#32
/-- The pieces of the mask, and the mask itself: which keys each query sees. -/
def m69 : IVec S256x256 1 := k0_pay8 (dw c) k0_pay2 k0_pay3 k0_pay4 k0_pay5
def m72 : BitVec 32 := Scalar.select (Scalar.cmpi .eq 3#32 0#32) 1#32 3#32
def m74 : IVec S256x256 32 := k0_pay9 (dw c) k0_pay2 k0_pay3 k0_pay4 k0_pay5
def m76 : IVec S256x256 1 := k0_pay10 (dw c) k0_pay2 k0_pay3 k0_pay4 k0_pay5
def keep : IVec S256x256 1 := k0_pay12 (m69 c) m72 (m74 c) (m76 c) k0_pay11

/-- The query projections, as each batch's code has them. -/
def q0 : FVec F S256x256 .f32 := k0_pay13 (x0 I) (wq I)
def q1 : FVec F S256x256 .f32 := k0_pay32 (k0_pay30 (x1 I)) (k0_pay31 (wq I))

/-- Batch 0: each head's unnormalised context, and its weight sums. -/
def ctx0 : Fin 4 → Vec F S1x256x64 .bf16 :=
  ![k0_pay17 (k0_pay16 (m69 c) m72 (m74 c) (m76 c) k0_pay11 (x0 I) (wq I) (k0 I) (v0 I)), k0_pay20 (keep c) (q0 I) (k0 I) (v0 I),
    k0_pay24 (keep c) (k0_pay22 (q0 I)) (k0 I) (v0 I), k0_pay28 (k0_pay26 (keep c) (q0 I) (k0 I)) (v0 I)]
def sum0 : Fin 4 → Vec F S1x256x1 .bf16 :=
  ![k0_pay18 (k0_pay15 (m69 c) m72 (m74 c) (m76 c) k0_pay11 (x0 I) (wq I) (k0 I)), k0_pay21 (keep c) (q0 I) (k0 I),
    k0_pay25 (keep c) (k0_pay22 (q0 I)) (k0 I), k0_pay29 (k0_pay27 (keep c) (q0 I) (k0 I))]
/-- Batch 1 likewise. -/
def ctx1 : Fin 4 → Vec F S1x256x64 .bf16 :=
  ![k0_pay34 (keep c) (k0_pay30 (x1 I)) (k0_pay31 (wq I)) (k1 I) (v1 I), k0_pay38 (keep c) (k0_pay36 (k0_pay30 (x1 I)) (k0_pay31 (wq I)) (k1 I)) (v1 I),
    k0_pay44 (k0_pay42 (v1 I)) (k0_pay43 (keep c) (q1 I) (k1 I)) (constant S256x64 .f32 0x00000000#32), k0_pay47 (keep c) (q1 I) (k1 I) (v1 I)]
def sum1 : Fin 4 → Vec F S1x256x1 .bf16 :=
  ![k0_pay35 (keep c) (k0_pay30 (x1 I)) (k0_pay31 (wq I)) (k1 I), k0_pay39 (keep c) (k0_pay36 (k0_pay30 (x1 I)) (k0_pay31 (wq I)) (k1 I)),
    k0_pay45 (k0_pay41 (keep c) (q1 I) (k1 I)), k0_pay49 (k0_pay48 (keep c) (q1 I) (k1 I))]

/-- The device's own share of each batch. -/
def blk (b : Fin 2) : Blk F := if b = 0 then blkOf (ctx0 I c) (sum0 I c) else blkOf (ctx1 I c) (sum1 I c)
end Vals

/-! ## The body's parts, each at the launch's own buffers -/

/-- A part of the body at the launch's buffers and semaphores. -/
abbrev onBufs {β : Type 1} (p : (arg0 : Memref sig .tc .vmem S2x256x512 .bf16) → arg0.IsWhole → (arg1 : Memref sig .tc .vmem S512x256 .bf16) → arg1.IsWhole →
    (arg2 : Memref sig .tc .vmem S2x256x256 .bf16) → arg2.IsWhole → (arg3 : Memref sig .tc .vmem S2x256x256 .bf16) → arg3.IsWhole →
    (arg4 : Memref sig .tc .vmem S256x512 .bf16) → arg4.IsWhole → (arg5 : Memref sig .tc .vmem S2x256x512 .f32) → arg5.IsWhole →
    (arg6 : Memref sig .tc .vmem S2x256x264 .bf16) → arg6.IsWhole → (arg7 : Memref sig .tc .vmem S3x2x256x264 .bf16) → arg7.IsWhole →
    DmaSems sig S3x2 → DmaSems sig S3x2 → β) : β :=
  p xM (Memref.isWhole_whole _) qM (Memref.isWhole_whole _) kM (Memref.isWhole_whole _) vM (Memref.isWhole_whole _) oM (Memref.isWhole_whole _)
    rM (Memref.isWhole_whole _) accM (Memref.isWhole_whole _) comM (Memref.isWhole_whole _) cc0_scratch2 cc0_scratch3

/-- A device's buffer `b`, whole, holding `v`. -/
abbrev own1 (c : Dev nD) (b : Ref sig .tc) (v : Buf (Elt F) ((c : Thread nD τ).loc b)) : sProp 𝕄 := (c : Thread nD τ).loc b ↦{fullShare} v
/-- The device's accumulator with `n` heads of batch `b` in place. -/
def filled (X : Blk F) (b : Fin 2) (n : ℕ) (c : Dev nD) : sProp 𝕄 := iprop(∃ f, ⌜Fill b n X f⌝ ∗ accPts b c f)

section Parts
variable (I : Ins F) (c : Dev nD)

theorem part3 {α : Type} {Q : α → sProp 𝕄} (X : Blk F)
    {kk : (Σ' (v89 : IVec S256x256 1) (v94 : FVec F S256x256 .f32) (v107 : FVec F S256x1 .f32), FVec F S256x64 .bf16) → Prog (TpuEff nD τ sig (Elt F) Λ₀ .tc) α} :
    iprop(own1 c cc0_stg0_0 I.x ∗ own1 c cc0_stg1_0 I.q ∗ own1 c cc0_stg2_0 I.k ∗ own1 c cc0_stg3_0 I.v ∗ filled X 0 0 c)
      ⊢ iprop(((own1 c cc0_stg0_0 I.x ∗ own1 c cc0_stg1_0 I.q ∗ own1 c cc0_stg2_0 I.k ∗ own1 c cc0_stg3_0 I.v ∗ filled X 0 0 c)
            -∗ WP c (kk ⟨keep c, q0 I, k0_pay15 (m69 c) m72 (m74 c) (m76 c) k0_pay11 (x0 I) (wq I) (k0 I),
              k0_pay16 (m69 c) m72 (m74 c) (m76 c) k0_pay11 (x0 I) (wq I) (k0 I) (v0 I)⟩) Q)
          -∗ WP c (onBufs (k0_part3 (F := F)) (m69 c) m72 (m74 c) (m76 c) k0_pay11 >>= kk) Q) := by
  unfold filled onBufs
  rw [k0_part3_eq_skeleton]
  unfold k0_part3_skel
  simp only [Prog.lift, Prog.bind_op, Prog.bind_ret, Prog.pure_eq_ret]
  unfold accPts
  iintro ⟨Hx, Hq, Hk, Hv, ⟨%f, %hf, Ha⟩⟩ Hc
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := accM) (accR_sub 0 inb_S2x256x264_S1x256x64_0_0_0)) $$ Ha; iintro Ha
  iapply Hc
  isplitl [Hx]; · iexact Hx
  isplitl [Hq]; · iexact Hq
  isplitl [Hk]; · iexact Hk
  isplitl [Hv]; · iexact Hv
  iexists f; isplitr; · (ipureintro; exact hf)
  iexact Ha

theorem part4 {α : Type} {Q : α → sProp 𝕄}
    {kk : (Σ' (v147 : FVec F S256x64 .f32), Vec F S1x256x256 .bf16) → Prog (TpuEff nD τ sig (Elt F) Λ₀ .tc) α} :
    iprop(own1 c cc0_stg2_0 I.k ∗ own1 c cc0_stg3_0 I.v ∗ filled (blk I c 0) 0 0 c)
      ⊢ iprop(((own1 c cc0_stg2_0 I.k ∗ own1 c cc0_stg3_0 I.v ∗ filled (blk I c 0) 0 2 c)
            -∗ WP c (kk ⟨k0_pay22 (q0 I), k0 I⟩) Q)
          -∗ WP c (onBufs (k0_part4 (F := F)) (keep c) (q0 I) (k0_pay15 (m69 c) m72 (m74 c) (m76 c) k0_pay11 (x0 I) (wq I) (k0 I))
              (k0_pay16 (m69 c) m72 (m74 c) (m76 c) k0_pay11 (x0 I) (wq I) (k0 I) (v0 I)) >>= kk) Q) := by
  unfold filled onBufs
  rw [k0_part4_eq_skeleton]
  unfold k0_part4_skel
  simp only [Prog.lift, Prog.bind_op, Prog.bind_ret, Prog.pure_eq_ret]
  unfold accPts
  iintro ⟨Hk, Hv, ⟨%f, %hf, Ha⟩⟩ Hc
  iapply (wp_store 𝒱₀ (c : Thread nD τ) none Set.univ (m := accM) (accW_sub 0 inb_S2x256x264_S1x256x64_0_0_0)) $$ Ha; iintro Ha
  iapply (wp_load 𝒱₀ (c : Thread nD τ) none Set.univ (m := accM) (accR_sub 0 inb_S2x256x264_S1x256x1_0_0_256)) $$ Ha; iintro Ha
  iapply (wp_store 𝒱₀ (c : Thread nD τ) none Set.univ (m := accM) (accW_sub 0 inb_S2x256x264_S1x256x1_0_0_256)) $$ Ha; iintro Ha
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := accM) (accR_sub 0 inb_S2x256x264_S1x256x64_0_0_64)) $$ Ha; iintro Ha
  iapply (wp_store 𝒱₀ (c : Thread nD τ) none Set.univ (m := accM) (accW_sub 0 inb_S2x256x264_S1x256x64_0_0_64)) $$ Ha; iintro Ha
  iapply (wp_load 𝒱₀ (c : Thread nD τ) none Set.univ (m := accM) (accR_sub 0 inb_S2x256x264_S1x256x1_0_0_257)) $$ Ha; iintro Ha
  iapply (wp_store 𝒱₀ (c : Thread nD τ) none Set.univ (m := accM) (accW_sub 0 inb_S2x256x264_S1x256x1_0_0_257)) $$ Ha; iintro Ha
  iapply (wp_load 𝒱₀ (c : Thread nD τ) none Set.univ (m := kM) (Finset.subset_univ _)) $$ Hk; iintro Hk
  iapply Hc
  isplitl [Hk]; · iexact Hk
  isplitl [Hv]; · iexact Hv
  iexists _; isplitr
  · ipureintro
    exact fill_succ (W := ctx0 I c) (S := sum0 I c) (n := 1) (by decide) rfl rfl inb_S2x256x264_S1x256x64_0_0_64 inb_S2x256x264_S1x256x1_0_0_257
      (fill_succ (W := ctx0 I c) (S := sum0 I c) (n := 0) (by decide) rfl rfl inb_S2x256x264_S1x256x64_0_0_0 inb_S2x256x264_S1x256x1_0_0_256 hf)
  · iexact Ha

theorem part5 {α : Type} {Q : α → sProp 𝕄}
    {kk : (Σ' (v183 : FVec F S256x256 .f32), FVec F S256x1 .f32) → Prog (TpuEff nD τ sig (Elt F) Λ₀ .tc) α} :
    iprop(own1 c cc0_stg2_0 I.k ∗ own1 c cc0_stg3_0 I.v ∗ filled (blk I c 0) 0 2 c)
      ⊢ iprop(((own1 c cc0_stg2_0 I.k ∗ own1 c cc0_stg3_0 I.v ∗ filled (blk I c 0) 0 3 c)
            -∗ WP c (kk ⟨k0_pay26 (keep c) (q0 I) (k0 I), k0_pay27 (keep c) (q0 I) (k0 I)⟩) Q)
          -∗ WP c (onBufs (k0_part5 (F := F)) (keep c) (q0 I) (k0_pay22 (q0 I)) (k0 I) >>= kk) Q) := by
  unfold filled onBufs
  rw [k0_part5_eq_skeleton]
  unfold k0_part5_skel
  simp only [Prog.lift, Prog.bind_op, Prog.bind_ret, Prog.pure_eq_ret]
  unfold accPts
  iintro ⟨Hk, Hv, ⟨%f, %hf, Ha⟩⟩ Hc
  iapply (wp_load 𝒱₀ (c : Thread nD τ) none Set.univ (m := vM) (Finset.subset_univ _)) $$ Hv; iintro Hv
  iapply (wp_load 𝒱₀ (c : Thread nD τ) none Set.univ (m := accM) (accR_sub 0 inb_S2x256x264_S1x256x64_0_0_128)) $$ Ha; iintro Ha
  iapply (wp_store 𝒱₀ (c : Thread nD τ) none Set.univ (m := accM) (accW_sub 0 inb_S2x256x264_S1x256x64_0_0_128)) $$ Ha; iintro Ha
  iapply (wp_load 𝒱₀ (c : Thread nD τ) none Set.univ (m := accM) (accR_sub 0 inb_S2x256x264_S1x256x1_0_0_258)) $$ Ha; iintro Ha
  iapply (wp_store 𝒱₀ (c : Thread nD τ) none Set.univ (m := accM) (accW_sub 0 inb_S2x256x264_S1x256x1_0_0_258)) $$ Ha; iintro Ha
  iapply (wp_load 𝒱₀ (c : Thread nD τ) none Set.univ (m := kM) (Finset.subset_univ _)) $$ Hk; iintro Hk
  iapply Hc
  isplitl [Hk]; · iexact Hk
  isplitl [Hv]; · iexact Hv
  iexists _; isplitr
  · ipureintro
    exact fill_succ (W := ctx0 I c) (S := sum0 I c) (n := 2) (by decide) rfl rfl inb_S2x256x264_S1x256x64_0_0_128 inb_S2x256x264_S1x256x1_0_0_258 hf
  · iexact Ha

theorem part7 {α : Type} {Q : α → sProp 𝕄}
    {kk : (Σ' (v214 : FVec F S256x256 .f32), FVec F S256x256 .f32) → Prog (TpuEff nD τ sig (Elt F) Λ₀ .tc) α} :
    iprop(own1 c cc0_stg2_0 I.k ∗ own1 c cc0_stg3_0 I.v ∗ filled (blk I c 1) 1 0 c)
      ⊢ iprop(((own1 c cc0_stg2_0 I.k ∗ own1 c cc0_stg3_0 I.v ∗ filled (blk I c 1) 1 1 c)
            -∗ WP c (kk ⟨q1 I, k0_pay36 (k0_pay30 (x1 I)) (k0_pay31 (wq I)) (k1 I)⟩) Q)
          -∗ WP c (onBufs (k0_part7 (F := F)) (keep c) (k0_pay30 (x1 I)) (k0_pay31 (wq I)) >>= kk) Q) := by
  unfold filled onBufs
  rw [k0_part7_eq_skeleton]
  unfold k0_part7_skel
  simp only [Prog.lift, Prog.bind_op, Prog.bind_ret, Prog.pure_eq_ret]
  unfold accPts
  iintro ⟨Hk, Hv, ⟨%f, %hf, Ha⟩⟩ Hc
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := accM) (accR_sub 1 inb_S2x256x264_S1x256x64_1_0_0)) $$ Ha; iintro Ha
  iapply (wp_store 𝒱₀ (c : Thread nD τ) none Set.univ (m := accM) (accW_sub 1 inb_S2x256x264_S1x256x64_1_0_0)) $$ Ha; iintro Ha
  iapply (wp_load 𝒱₀ (c : Thread nD τ) none Set.univ (m := accM) (accR_sub 1 inb_S2x256x264_S1x256x1_1_0_256)) $$ Ha; iintro Ha
  iapply (wp_store 𝒱₀ (c : Thread nD τ) none Set.univ (m := accM) (accW_sub 1 inb_S2x256x264_S1x256x1_1_0_256)) $$ Ha; iintro Ha
  iapply (wp_load 𝒱₀ (c : Thread nD τ) none Set.univ (m := kM) (Finset.subset_univ _)) $$ Hk; iintro Hk
  iapply Hc
  isplitl [Hk]; · iexact Hk
  isplitl [Hv]; · iexact Hv
  iexists _; isplitr
  · ipureintro
    exact fill_succ (W := ctx1 I c) (S := sum1 I c) (n := 0) (by decide) rfl rfl inb_S2x256x264_S1x256x64_1_0_0 inb_S2x256x264_S1x256x1_1_0_256 hf
  · iexact Ha

theorem part8 {α : Type} {Q : α → sProp 𝕄}
    {kk : (Σ' (v279 : FVec F S256x1 .f32) (v282 : FVec F S256x64 .bf16) (v283 : FVec F S256x256 .bf16), FVec F S256x64 .f32) → Prog (TpuEff nD τ sig (Elt F) Λ₀ .tc) α} :
    iprop(own1 c cc0_stg2_0 I.k ∗ own1 c cc0_stg3_0 I.v ∗ filled (blk I c 1) 1 1 c)
      ⊢ iprop(((own1 c cc0_stg2_0 I.k ∗ own1 c cc0_stg3_0 I.v ∗ filled (blk I c 1) 1 2 c)
            -∗ WP c (kk ⟨k0_pay41 (keep c) (q1 I) (k1 I), k0_pay42 (v1 I), k0_pay43 (keep c) (q1 I) (k1 I), constant S256x64 .f32 0x00000000#32⟩) Q)
          -∗ WP c (onBufs (k0_part8 (F := F)) (keep c) (q1 I) (k0_pay36 (k0_pay30 (x1 I)) (k0_pay31 (wq I)) (k1 I)) >>= kk) Q) := by
  unfold filled onBufs
  rw [k0_part8_eq_skeleton]
  unfold k0_part8_skel
  simp only [Prog.lift, Prog.bind_op, Prog.bind_ret, Prog.pure_eq_ret]
  unfold accPts
  iintro ⟨Hk, Hv, ⟨%f, %hf, Ha⟩⟩ Hc
  iapply (wp_load 𝒱₀ (c : Thread nD τ) none Set.univ (m := vM) (Finset.subset_univ _)) $$ Hv; iintro Hv
  iapply (wp_load 𝒱₀ (c : Thread nD τ) none Set.univ (m := accM) (accR_sub 1 inb_S2x256x264_S1x256x64_1_0_64)) $$ Ha; iintro Ha
  iapply (wp_store 𝒱₀ (c : Thread nD τ) none Set.univ (m := accM) (accW_sub 1 inb_S2x256x264_S1x256x64_1_0_64)) $$ Ha; iintro Ha
  iapply (wp_load 𝒱₀ (c : Thread nD τ) none Set.univ (m := accM) (accR_sub 1 inb_S2x256x264_S1x256x1_1_0_257)) $$ Ha; iintro Ha
  iapply (wp_store 𝒱₀ (c : Thread nD τ) none Set.univ (m := accM) (accW_sub 1 inb_S2x256x264_S1x256x1_1_0_257)) $$ Ha; iintro Ha
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply Hc
  isplitl [Hk]; · iexact Hk
  isplitl [Hv]; · iexact Hv
  iexists _; isplitr
  · ipureintro
    exact fill_succ (W := ctx1 I c) (S := sum1 I c) (n := 1) (by decide) rfl rfl inb_S2x256x264_S1x256x64_1_0_64 inb_S2x256x264_S1x256x1_1_0_257 hf
  · iexact Ha

/-- Batch 1 complete but for the last head's weight sum, which is still to be stored. -/
def pending : sProp 𝕄 :=
  iprop(∃ f, ⌜Fill (c := c) 1 4 (blk I c 1) ((accM.access (Rect.unit (s := S2x256x264) ![1, 0, 259] S1x256x1.size inb_S2x256x264_S1x256x1_1_0_259)).write (Elt F) f
    (k0_pay49 (k0_pay48 (keep c) (q1 I) (k1 I))) Finset.univ)⌝ ∗ accPts 1 c f)

theorem part9 {α : Type} {Q : α → sProp 𝕄} {kk : FVec F S256x1 .bf16 → Prog (TpuEff nD τ sig (Elt F) Λ₀ .tc) α} :
    iprop(own1 c cc0_stg2_0 I.k ∗ own1 c cc0_stg3_0 I.v ∗ filled (blk I c 1) 1 2 c)
      ⊢ iprop(((own1 c cc0_stg2_0 I.k ∗ own1 c cc0_stg3_0 I.v ∗ pending I c) -∗ WP c (kk (k0_pay48 (keep c) (q1 I) (k1 I))) Q)
          -∗ WP c (onBufs (k0_part9 (F := F)) (keep c) (q1 I) (k0_pay41 (keep c) (q1 I) (k1 I)) (k0_pay42 (v1 I)) (k0_pay43 (keep c) (q1 I) (k1 I))
              (constant S256x64 .f32 0x00000000#32) >>= kk) Q) := by
  unfold filled onBufs pending
  rw [k0_part9_eq_skeleton]
  unfold k0_part9_skel
  simp only [Prog.lift, Prog.bind_op, Prog.bind_ret, Prog.pure_eq_ret]
  unfold accPts
  iintro ⟨Hk, Hv, ⟨%f, %hf, Ha⟩⟩ Hc
  iapply (wp_load 𝒱₀ (c : Thread nD τ) none Set.univ (m := accM) (accR_sub 1 inb_S2x256x264_S1x256x64_1_0_128)) $$ Ha; iintro Ha
  iapply (wp_store 𝒱₀ (c : Thread nD τ) none Set.univ (m := accM) (accW_sub 1 inb_S2x256x264_S1x256x64_1_0_128)) $$ Ha; iintro Ha
  iapply (wp_load 𝒱₀ (c : Thread nD τ) none Set.univ (m := accM) (accR_sub 1 inb_S2x256x264_S1x256x1_1_0_258)) $$ Ha; iintro Ha
  iapply (wp_store 𝒱₀ (c : Thread nD τ) none Set.univ (m := accM) (accW_sub 1 inb_S2x256x264_S1x256x1_1_0_258)) $$ Ha; iintro Ha
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := accM) (accR_sub 1 inb_S2x256x264_S1x256x64_1_0_192)) $$ Ha; iintro Ha
  iapply (wp_store 𝒱₀ (c : Thread nD τ) none Set.univ (m := accM) (accW_sub 1 inb_S2x256x264_S1x256x64_1_0_192)) $$ Ha; iintro Ha
  iapply (wp_load 𝒱₀ (c : Thread nD τ) none Set.univ (m := accM) (accR_sub 1 inb_S2x256x264_S1x256x1_1_0_259)) $$ Ha; iintro Ha
  iapply Hc
  isplitl [Hk]; · iexact Hk
  isplitl [Hv]; · iexact Hv
  iexists _; isplitr
  · ipureintro
    exact fill_succ (W := ctx1 I c) (S := sum1 I c) (n := 3) (by decide) rfl rfl inb_S2x256x264_S1x256x64_1_0_192 inb_S2x256x264_S1x256x1_1_0_259
      (fill_succ (W := ctx1 I c) (S := sum1 I c) (n := 2) (by decide) rfl rfl inb_S2x256x264_S1x256x64_1_0_128 inb_S2x256x264_S1x256x1_1_0_258 hf)
  · iexact Ha
end Parts

/-! ## The exchange, part by part -/

section Exchange
variable (I : Dev nD → Ins F) (K : GSem nD τ sig → ℕ) (c : Dev nD)

/-- Every device's own share of each batch. -/
def shares (b : Fin 2) (c : Dev nD) : Blk F := blk (I c) c b

/-- What device `c` needs to start exchange `k`: the partner's landing slot, and the two duties the copy will meet. -/
def goSend (k : Fin 6) : sProp 𝕄 :=
  iprop((∃ f, comPts k (pr (pj k) c) f) ∗ dutyTok ER (sendCell k c) 0 0 ∗ reached ER (sendCell k c) 0
    ∗ dutyTok ER (recvCell k (pr (pj k) c)) 0 0 ∗ reached ER (recvCell k (pr (pj k) c)) 0)
/-- What it needs to receive: the credit promised to it and its place on the receive cell. -/
def toRecv (k : Fin 6) : sProp 𝕄 := iprop(cred (tallyAt (recvCell k c) () N) ∗ atPos ER (recvCell k c) 0 ∅ 0)
/-- What it has when exchange `k` is received: its own slot again, and the receive cell past its round. -/
def received (k : Fin 6) : sProp 𝕄 := iprop((∃ f, comPts k c f) ∗ atPos ER (recvCell k c) (0 + 1) ∅ 0)
/-- While exchange `k` is going out: the send credit, and the place on the send cell. -/
def going (k : Fin 6) : sProp 𝕄 := iprop(cred (tallyAt (sendCell k c) () N) ∗ atPos ER (sendCell k c) 0 ∅ 0)
/-- The invariants and the levels, which everyone may read. -/
def known : sProp 𝕄 := iprop(records (shares I) K ∗ levAts L lv)

instance known_persistent : BI.Persistent (known I K) := by unfold known; infer_instance

/-- A batch with its four heads in place is where the exchange starts. -/
theorem filled_accAt (b : Fin 2) : filled (blk (I c) c b) b 4 c ⊢ accAt (shares I) b 0 c := by
  unfold filled accAt
  iintro ⟨%f, %hf, Ha⟩
  iexists f; isplitr
  · ipureintro; exact fill_holds hf
  · iexact Ha

/-- Exchange `k` goes out. -/
theorem go (k : Fin 6) {α : Type} {Q : α → sProp 𝕄} (n : Dev nD) (hn : n = pr (pj k) c)
    {hsc : (comV k : Memref sig (Dev.tc n : Thread nD τ).2.kind .vmem S256x264 .bf16).view.ref.isScScratch = false}
    {hsrc : (accV (bo k)).view.WordExact} {hdst : (comV k).view.WordExact}
    {hsem : DmaTarget.Typed .vmem (.dma (recvS k)) (.remote (Dev.tc n : Thread nD τ) (comV k : Memref sig (Dev.tc n : Thread nD τ).2.kind .vmem S256x264 .bf16) (.dma (sendS k)) hsc)}
    {kk : PUnit → Prog (TpuEff nD τ sig (Elt F) Λ₀ .tc) α} (O : CellTallies nD τ sig Unit) :
    iprop(known I K ∗ accAt (shares I) (bo k) (so k).val c ∗ goSend c k ∗ atPos ER (sendCell k c) 0 ∅ 0 ∗ owing c (O + oweR k c))
      ⊢ iprop(((going c k ∗ owing c O) -∗ WP c (kk ⟨⟩) Q)
          -∗ WP c (.op (.enqueueDma (accV (bo k)) (.remote (Dev.tc n : Thread nD τ) (comV k) (.dma (sendS k)) hsc) (.dma (recvS k)) hsrc hdst hsem) kk) Q) := by
  unfold known goSend going
  rw [← sendPay_eq]
  iintro ⟨⟨#HR, #HL⟩, Ha, ⟨Hf, Ht, #Hr, Ht', #Hr'⟩, Hat, HO⟩ Hk
  iapply (step_send (shares I) K k c n hn O) $$ [Ha Hf Ht Ht' HO]
  · isplitr; · iexact HR
    isplitl [Ha]; · iexact Ha
    isplitl [Hf]; · iexact Hf
    isplitl [HO]; · iexact HO
    isplitl [Ht]; · iexact Ht
    isplitr; · iexact Hr
    isplitl [Ht']; · iexact Ht'
    iexact Hr'
  iintro ⟨Hcr, HO⟩
  iapply Hk
  isplitr [HO]
  · isplitl [Hcr]; · iexact Hcr
    iexact Hat
  iexact HO

/-- The outgoing copy of exchange `k` is done and the accumulator's batch is back. -/
theorem back (k : Fin 6) {α : Type} {Q : α → sProp 𝕄} {O : CellTallies nD τ sig Unit} (hO : Above 0 O)
    {hs : (comV k).view.WordExact} {hd : (accV (bo k)).view.WordExact}
    {kk : PUnit → Prog (TpuEff nD τ sig (Elt F) Λ₀ .tc) α} :
    iprop(known I K ∗ going c k ∗ owing c O)
      ⊢ iprop(((accAt (shares I) (bo k) (so k).val c ∗ owing c O ∗ atPos ER (sendCell k c) (0 + 1) ∅ 0) -∗ WP c (kk ⟨⟩) Q)
          -∗ WP c (.op (.waitDma2 (sendS k) (comV k) (accV (bo k)) hs hd) kk) Q) := by
  unfold known going
  rw [← sendPay_eq]
  iintro ⟨⟨#HR, #HL⟩, ⟨Hc, Hat⟩, HO⟩ Hk
  iapply (step_waitSend (shares I) K k c hO) $$ [Hc Hat HO] [Hk]
  · isplitr; · iexact HR
    isplitr; · iexact HL
    isplitl [Hc]; · iexact Hc
    isplitl [HO]; · iexact HO
    iexact Hat
  iexact Hk

/-- Exchange `k` has come in and is added. -/
theorem got (k : Fin 6) {α : Type} {Q : α → sProp 𝕄} {O : CellTallies nD τ sig Unit} (hO : Above (2 + k.val) O)
    {P : Vec F S1x256x260 .bf16 → Vec F S1x1x256x260 .bf16 → FVec F S1x256x260 .bf16} (hP : P = k0_pay50)
    {hs : (accV (bo k)).view.WordExact} {hd : (comV k).view.WordExact}
    {h1 h2 : View.LoadsAt accM.view (Rect.unit (s := S2x256x264) ![(bo k).val, 0, 0] S1x256x260.size (acc_inb' (bo k))).toLoadRect}
    {h3 : View.LoadsAt comM.view (Rect.unit (s := S3x2x256x264) ![(so k).val, (bo k).val, 0, 0] S1x1x256x260.size (com_inb' k)).toLoadRect}
    {h4} {h5}
    {kk : PUnit → Prog (TpuEff nD τ sig (Elt F) Λ₀ .tc) α} :
    iprop(known I K ∗ toRecv c k ∗ owing c O ∗ accAt (shares I) (bo k) (so k).val c)
      ⊢ iprop(((accAt (shares I) (bo k) ((so k).val + 1) c ∗ received c k ∗ owing c O) -∗ WP c (kk ⟨⟩) Q)
          -∗ WP c (.op (.waitDma2 (recvS k) (accV (bo k)) (comV k) hs hd) fun _ =>
              .op (.load accM (Rect.unit (s := S2x256x264) ![(bo k).val, 0, 0] S1x256x260.size (acc_inb' (bo k))).toLoadRect h1) fun v =>
              .op (.load comM (Rect.unit (s := S3x2x256x264) ![(so k).val, (bo k).val, 0, 0] S1x1x256x260.size (com_inb' k)).toLoadRect h3) fun w =>
              .op (.load accM (Rect.unit (s := S2x256x264) ![(bo k).val, 0, 0] S1x256x260.size (acc_inb' (bo k))).toLoadRect h2) fun _ =>
              .op (.store accM (Rect.unit (s := S2x256x264) ![(bo k).val, 0, 0] S1x256x260.size (acc_inb' (bo k))) (P v w) Finset.univ h4 h5) kk) Q) := by
  unfold known toRecv received
  iintro ⟨⟨#HR, #HL⟩, ⟨Hc, Hat⟩, HO, Ha⟩ Hk
  iapply (step_waitRecv (shares I) K k c hO) $$ [Hc Hat HO]
  · isplitr; · iexact HR
    isplitr; · iexact HL
    isplitl [Hc]; · iexact Hc
    isplitl [HO]; · iexact HO
    iexact Hat
  iintro ⟨Hp, HO, Hat⟩
  iapply (step_add (shares I) k c hP) $$ [Ha Hp]
  · isplitl [Ha]; · iexact Ha
    iexact Hp
  iintro ⟨Ha, Hs⟩
  iapply Hk
  isplitl [Ha]; · iexact Ha
  isplitr [HO]
  · isplitl [Hs]; · iexact Hs
    iexact Hat
  iexact HO

theorem part6 (v2 : BitVec 32) {α : Type} {Q : α → sProp 𝕄}
    {kk : (Σ' (v211 : FVec F S256x512 .bf16), FVec F S512x256 .bf16) → Prog (TpuEff nD τ sig (Elt F) Λ₀ .tc) α} :
    iprop(known I K ∗ own1 c cc0_stg0_0 (I c).x ∗ own1 c cc0_stg1_0 (I c).q ∗ own1 c cc0_stg3_0 (I c).v ∗ filled (blk (I c) c 0) 0 3 c
        ∗ goSend c 0 ∗ atPos ER (sendCell 0 c) 0 ∅ 0 ∗ owing c (owedR0 c))
      ⊢ iprop(((own1 c cc0_stg0_0 (I c).x ∗ own1 c cc0_stg1_0 (I c).q ∗ own1 c cc0_stg3_0 (I c).v ∗ going c 0 ∗ owing c (owedR1 c))
            -∗ WP c (kk ⟨k0_pay30 (x1 (I c)), k0_pay31 (wq (I c))⟩) Q)
          -∗ WP c (onBufs (k0_part6 (F := F)) c v2 (k0_pay26 (keep c) (q0 (I c)) (k0 (I c))) (k0_pay27 (keep c) (q0 (I c)) (k0 (I c))) >>= kk) Q) := by
  unfold filled onBufs
  rw [k0_part6_eq_skeleton]
  unfold k0_part6_skel
  simp only [Prog.lift, Prog.bind_op, Prog.bind_ret, Prog.pure_eq_ret]
  iintro ⟨#HK, Hx, Hq, Hv, ⟨%f, %hf, Ha⟩, Hg, Hat, HO⟩ Hc
  unfold accPts
  iapply (wp_load 𝒱₀ (c : Thread nD τ) none Set.univ (m := vM) (Finset.subset_univ _)) $$ Hv; iintro Hv
  iapply (wp_load 𝒱₀ (c : Thread nD τ) none Set.univ (m := accM) (accR_sub 0 inb_S2x256x264_S1x256x64_0_0_192)) $$ Ha; iintro Ha
  iapply (wp_store 𝒱₀ (c : Thread nD τ) none Set.univ (m := accM) (accW_sub 0 inb_S2x256x264_S1x256x64_0_0_192)) $$ Ha; iintro Ha
  iapply (wp_load 𝒱₀ (c : Thread nD τ) none Set.univ (m := accM) (accR_sub 0 inb_S2x256x264_S1x256x1_0_0_259)) $$ Ha; iintro Ha
  iapply (wp_store 𝒱₀ (c : Thread nD τ) none Set.univ (m := accM) (accW_sub 0 inb_S2x256x264_S1x256x1_0_0_259)) $$ Ha; iintro Ha
  iapply (go I K c 0 _ (dev4_pr c) (owedR1 c)) $$ [Ha Hg Hat HO]
  · isplitr; · iexact HK
    isplitl [Ha]
    · iapply (filled_accAt I c 0); unfold filled accPts
      iexists _; isplitr
      · ipureintro
        exact fill_succ (W := ctx0 (I c) c) (S := sum0 (I c) c) (n := 3) (by decide) rfl rfl inb_S2x256x264_S1x256x64_0_0_192 inb_S2x256x264_S1x256x1_0_0_259 hf
      · iexact Ha
    isplitl [Hg]; · iexact Hg
    isplitl [Hat]; · iexact Hat
    iexact HO
  iintro ⟨Hg, HO⟩
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply Hc
  isplitl [Hx]; · iexact Hx
  isplitl [Hq]; · iexact Hq
  isplitl [Hv]; · iexact Hv
  isplitl [Hg]; · iexact Hg
  iexact HO

theorem part10 (v2 : BitVec 32) {α : Type} {Q : α → sProp 𝕄} {kk : PUnit → Prog (TpuEff nD τ sig (Elt F) Λ₀ .tc) α} :
    iprop(known I K ∗ pending (I c) c ∗ goSend c 1 ∗ atPos ER (sendCell 1 c) 0 ∅ 0 ∗ going c 0 ∗ owing c (owedR1 c))
      ⊢ iprop(((going c 1 ∗ accAt (shares I) 0 0 c ∗ atPos ER (sendCell 0 c) (0 + 1) ∅ 0 ∗ owing c (owedR2 c)) -∗ WP c (kk ⟨⟩) Q)
          -∗ WP c (onBufs (k0_part10 (F := F)) c v2 (k0_pay48 (keep c) (q1 (I c)) (k1 (I c))) >>= kk) Q) := by
  unfold pending onBufs
  rw [k0_part10_eq_skeleton]
  unfold k0_part10_skel
  simp only [Prog.lift, Prog.bind_op, Prog.bind_ret, Prog.pure_eq_ret]
  iintro ⟨#HK, ⟨%f, %hf, Ha⟩, Hg, Hat, Hs, HO⟩ Hc
  unfold accPts
  iapply (wp_store 𝒱₀ (c : Thread nD τ) none Set.univ (m := accM) (accW_sub 1 inb_S2x256x264_S1x256x1_1_0_259)) $$ Ha; iintro Ha
  iapply (go I K c 1 _ (dev5_pr c) (owedR2 c)) $$ [Ha Hg Hat HO]
  · isplitr; · iexact HK
    isplitl [Ha]
    · unfold accAt accPts
      iexists _; isplitr
      · ipureintro; exact fill_holds hf
      · iexact Ha
    isplitl [Hg]; · iexact Hg
    isplitl [Hat]; · iexact Hat
    iexact HO
  iintro ⟨Hg, HO⟩
  iapply (back I K c 0 (above2 (by decide) c)) $$ [Hs HO]
  · isplitr; · iexact HK
    isplitl [Hs]; · iexact Hs
    iexact HO
  iintro ⟨Ha, HO, Hat⟩
  iapply Hc
  isplitl [Hg]; · iexact Hg
  isplitl [Ha]; · iexact Ha
  isplitl [Hat]; · iexact Hat
  iexact HO

end Exchange
end Cert.KernelIdeal.Hand
-- ==== Proof.ExchKernelIdeal.lean ====
module

public import proofs.«01_k».proof.Proof.PartsKernelIdeal

@[expose] public section

noncomputable section

namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## What one device computes before the exchange -/

section Exchange
variable (I : Dev nD → Ins F) (K : GSem nD τ sig → ℕ) (c : Dev nD)

theorem part11 (v2 : BitVec 32) {α : Type} {Q : α → sProp 𝕄} {kk : BitVec 32 → Prog (TpuEff nD τ sig (Elt F) Λ₀ .tc) α} :
    iprop(known I K ∗ toRecv c 0 ∗ accAt (shares I) 0 0 c ∗ goSend c 2 ∗ atPos ER (sendCell 2 c) 0 ∅ 0 ∗ owing c (owedR2 c))
      ⊢ iprop(((received c 0 ∗ going c 2 ∗ owing c (owedR3 c)) -∗ WP c (kk (Scalar.xori v2 4#32)) Q)
          -∗ WP c (onBufs (k0_part11 (F := F)) c v2 >>= kk) Q) := by
  unfold onBufs
  rw [k0_part11_eq_skeleton]
  unfold k0_part11_skel
  simp only [Prog.lift, Prog.bind_op, Prog.bind_ret, Prog.pure_eq_ret]
  iintro ⟨#HK, Hr, Ha, Hg, Hat, HO⟩ Hc
  iapply (got I K c 0 (above2 (by decide) c) (P := k0_pay50) rfl) $$ [Hr Ha HO]
  · isplitr; · iexact HK
    isplitl [Hr]; · iexact Hr
    isplitl [HO]; · iexact HO
    iexact Ha
  iintro ⟨Ha, Hr, HO⟩
  iapply (go I K c 2 _ (dev6_pr c) (owedR3 c)) $$ [Ha Hg Hat HO]
  · isplitr; · iexact HK
    isplitl [Ha]; · iexact Ha
    isplitl [Hg]; · iexact Hg
    isplitl [Hat]; · iexact Hat
    iexact HO
  iintro ⟨Hg, HO⟩
  iapply Hc
  isplitl [Hr]; · iexact Hr
  isplitl [Hg]; · iexact Hg
  iexact HO

theorem part12 (v2 w : BitVec 32) {α : Type} {Q : α → sProp 𝕄} {kk : BitVec 32 → Prog (TpuEff nD τ sig (Elt F) Λ₀ .tc) α} :
    iprop(known I K ∗ going c 1 ∗ toRecv c 1 ∗ owing c (owedR3 c))
      ⊢ iprop(((received c 1 ∗ accAt (shares I) 1 1 c ∗ atPos ER (sendCell 1 c) (0 + 1) ∅ 0 ∗ owing c (owedR3 c)) -∗ WP c (kk (Scalar.xori v2 1#32)) Q)
          -∗ WP c (onBufs (k0_part12 (F := F)) v2 w >>= kk) Q) := by
  unfold onBufs
  rw [k0_part12_eq_skeleton]
  unfold k0_part12_skel
  simp only [Prog.lift, Prog.bind_op, Prog.bind_ret, Prog.pure_eq_ret]
  iintro ⟨#HK, Hg, Hr, HO⟩ Hc
  iapply (back I K c 1 (above3 (by decide) c)) $$ [Hg HO]
  · isplitr; · iexact HK
    isplitl [Hg]; · iexact Hg
    iexact HO
  iintro ⟨Ha, HO, Hat⟩
  iapply (got I K c 1 (above3 (by decide) c) (P := k0_pay51) rfl) $$ [Hr Ha HO]
  · isplitr; · iexact HK
    isplitl [Hr]; · iexact Hr
    isplitl [HO]; · iexact HO
    iexact Ha
  iintro ⟨Ha, Hr, HO⟩
  iapply Hc
  isplitl [Hr]; · iexact Hr
  isplitl [Ha]; · iexact Ha
  isplitl [Hat]; · iexact Hat
  iexact HO

theorem part13 (v2 w : BitVec 32) {α : Type} {Q : α → sProp 𝕄} {kk : PUnit → Prog (TpuEff nD τ sig (Elt F) Λ₀ .tc) α} :
    iprop(known I K ∗ accAt (shares I) 1 1 c ∗ goSend c 3 ∗ atPos ER (sendCell 3 c) 0 ∅ 0 ∗ going c 2 ∗ owing c (owedR3 c))
      ⊢ iprop(((going c 3 ∗ accAt (shares I) 0 1 c ∗ atPos ER (sendCell 2 c) (0 + 1) ∅ 0 ∗ owing c (owedR4 c)) -∗ WP c (kk ⟨⟩) Q)
          -∗ WP c (onBufs (k0_part13 (F := F)) c v2 w >>= kk) Q) := by
  unfold onBufs
  rw [k0_part13_eq_skeleton]
  unfold k0_part13_skel
  simp only [Prog.lift, Prog.bind_op, Prog.bind_ret, Prog.pure_eq_ret]
  iintro ⟨#HK, Ha, Hg, Hat, Hs, HO⟩ Hc
  iapply (go I K c 3 _ (dev7_pr c) (owedR4 c)) $$ [Ha Hg Hat HO]
  · isplitr; · iexact HK
    isplitl [Ha]; · iexact Ha
    isplitl [Hg]; · iexact Hg
    isplitl [Hat]; · iexact Hat
    iexact HO
  iintro ⟨Hg, HO⟩
  iapply (back I K c 2 (above4 (by decide) c)) $$ [Hs HO]
  · isplitr; · iexact HK
    isplitl [Hs]; · iexact Hs
    iexact HO
  iintro ⟨Ha, HO, Hat⟩
  iapply Hc
  isplitl [Hg]; · iexact Hg
  isplitl [Ha]; · iexact Ha
  isplitl [Hat]; · iexact Hat
  iexact HO

theorem part14 (v2 : BitVec 32) {α : Type} {Q : α → sProp 𝕄} {kk : BitVec 32 → Prog (TpuEff nD τ sig (Elt F) Λ₀ .tc) α} :
    iprop(known I K ∗ toRecv c 2 ∗ accAt (shares I) 0 1 c ∗ goSend c 4 ∗ atPos ER (sendCell 4 c) 0 ∅ 0 ∗ owing c (owedR4 c))
      ⊢ iprop(((received c 2 ∗ going c 4 ∗ owing c (owedR5 c)) -∗ WP c (kk (Scalar.xori v2 1#32)) Q)
          -∗ WP c (onBufs (k0_part14 (F := F)) c v2 >>= kk) Q) := by
  unfold onBufs
  rw [k0_part14_eq_skeleton]
  unfold k0_part14_skel
  simp only [Prog.lift, Prog.bind_op, Prog.bind_ret, Prog.pure_eq_ret]
  iintro ⟨#HK, Hr, Ha, Hg, Hat, HO⟩ Hc
  iapply (got I K c 2 (above4 (by decide) c) (P := k0_pay52) rfl) $$ [Hr Ha HO]
  · isplitr; · iexact HK
    isplitl [Hr]; · iexact Hr
    isplitl [HO]; · iexact HO
    iexact Ha
  iintro ⟨Ha, Hr, HO⟩
  iapply (go I K c 4 _ (dev8_pr c) (owedR5 c)) $$ [Ha Hg Hat HO]
  · isplitr; · iexact HK
    isplitl [Ha]; · iexact Ha
    isplitl [Hg]; · iexact Hg
    isplitl [Hat]; · iexact Hat
    iexact HO
  iintro ⟨Hg, HO⟩
  iapply Hc
  isplitl [Hr]; · iexact Hr
  isplitl [Hg]; · iexact Hg
  iexact HO

theorem part15 (v2 w : BitVec 32) {α : Type} {Q : α → sProp 𝕄} {kk : BitVec 32 → Prog (TpuEff nD τ sig (Elt F) Λ₀ .tc) α} :
    iprop(known I K ∗ going c 3 ∗ toRecv c 3 ∗ owing c (owedR5 c))
      ⊢ iprop(((received c 3 ∗ accAt (shares I) 1 2 c ∗ atPos ER (sendCell 3 c) (0 + 1) ∅ 0 ∗ owing c (owedR5 c)) -∗ WP c (kk (Scalar.xori v2 2#32)) Q)
          -∗ WP c (onBufs (k0_part15 (F := F)) v2 w >>= kk) Q) := by
  unfold onBufs
  rw [k0_part15_eq_skeleton]
  unfold k0_part15_skel
  simp only [Prog.lift, Prog.bind_op, Prog.bind_ret, Prog.pure_eq_ret]
  iintro ⟨#HK, Hg, Hr, HO⟩ Hc
  iapply (back I K c 3 (above5 (by decide) c)) $$ [Hg HO]
  · isplitr; · iexact HK
    isplitl [Hg]; · iexact Hg
    iexact HO
  iintro ⟨Ha, HO, Hat⟩
  iapply (got I K c 3 (above5 (by decide) c) (P := k0_pay53) rfl) $$ [Hr Ha HO]
  · isplitr; · iexact HK
    isplitl [Hr]; · iexact Hr
    isplitl [HO]; · iexact HO
    iexact Ha
  iintro ⟨Ha, Hr, HO⟩
  iapply Hc
  isplitl [Hr]; · iexact Hr
  isplitl [Ha]; · iexact Ha
  isplitl [Hat]; · iexact Hat
  iexact HO

theorem part16 (v2 w : BitVec 32) {α : Type} {Q : α → sProp 𝕄} {kk : PUnit → Prog (TpuEff nD τ sig (Elt F) Λ₀ .tc) α} :
    iprop(known I K ∗ accAt (shares I) 1 2 c ∗ goSend c 5 ∗ atPos ER (sendCell 5 c) 0 ∅ 0 ∗ going c 4 ∗ owing c (owedR5 c))
      ⊢ iprop(((going c 5 ∗ accAt (shares I) 0 2 c ∗ atPos ER (sendCell 4 c) (0 + 1) ∅ 0 ∗ owing c 0) -∗ WP c (kk ⟨⟩) Q)
          -∗ WP c (onBufs (k0_part16 (F := F)) c v2 w >>= kk) Q) := by
  unfold onBufs
  rw [k0_part16_eq_skeleton]
  unfold k0_part16_skel
  simp only [Prog.lift, Prog.bind_op, Prog.bind_ret, Prog.pure_eq_ret]
  iintro ⟨#HK, Ha, Hg, Hat, Hs, HO⟩ Hc
  iapply (go I K c 5 _ (dev9_pr c) 0) $$ [Ha Hg Hat HO]
  · isplitr; · iexact HK
    isplitl [Ha]; · iexact Ha
    isplitl [Hg]; · iexact Hg
    isplitl [Hat]; · iexact Hat
    iexact HO
  iintro ⟨Hg, HO⟩
  iapply (back I K c 4 (above_zero 0)) $$ [Hs HO]
  · isplitr; · iexact HK
    isplitl [Hs]; · iexact Hs
    iexact HO
  iintro ⟨Ha, HO, Hat⟩
  iapply Hc
  isplitl [Hg]; · iexact Hg
  isplitl [Ha]; · iexact Ha
  isplitl [Hat]; · iexact Hat
  iexact HO

end Exchange
end Cert.KernelIdeal.Hand
-- ==== Proof.OutKernelIdeal.lean ====
module

public import proofs.«01_k».proof.Proof.ExchKernelIdeal

@[expose] public section

noncomputable section

namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## What one device computes before the exchange -/

/-! ## What the last steps read and write -/

/-- Head `h`'s summed context, and its summed weights, out of a block. -/
def ctxOf (X : Blk F) (h : Fin 4) : Vec F S1x256x64 .bf16 := fun y =>
  X (y 1) (⟨64 * h.val + (y 2).val, by have := h.isLt; have : (y 2).val < 64 := (y 2).isLt; omega⟩ : Fin 260)
def sumOf (X : Blk F) (h : Fin 4) : Vec F S1x256x1 .bf16 := fun y =>
  X (y 1) (⟨256 + h.val, by have := h.isLt; omega⟩ : Fin 260)

omit [FloatOps F] in
/-- Loading 64 context columns of a batch that holds `X`. -/
theorem read_ctx {c : Dev nD} {b : Fin 2} {X : Blk F} {f : AccBuf F c} (hf : Holds b X f) (h : Fin 4) {o : ℕ} (ho : o = 64 * h.val)
    (inb : ∀ a, (![b.val, 0, o] : Fin 3 → ℕ) a + (![1, 256, 64] : Fin 3 → ℕ) a ≤ S2x256x264.size a) :
    accM.view.readAt (Elt F) (Rect.unit (s := S2x256x264) ![b.val, 0, o] ![1, 256, 64] inb).toLoadRect f = ctxOf X h := by
  funext y
  obtain ⟨z, i, j, rfl⟩ : ∃ (z : Fin 1) (i : Fin 256) (j : Fin 64), y = ix3 z i j := ⟨y 0, y 1, y 2, (eq_ix3 y)⟩
  obtain rfl : z = 0 := Subsingleton.elim _ _
  have hh := h.isLt
  have hj := j.isLt
  refine (read_acc inb f b rfl i j ⟨o + j.val, by omega⟩ rfl).trans ?_
  rw [show (⟨o + j.val, by omega⟩ : Fin 264) = col ⟨64 * h.val + j.val, by omega⟩ from Fin.ext (by show o + j.val = 64 * h.val + j.val; omega)]
  exact hf i _

omit [FloatOps F] in
/-- Loading one weight-sum column of a batch that holds `X`. -/
theorem read_sum {c : Dev nD} {b : Fin 2} {X : Blk F} {f : AccBuf F c} (hf : Holds b X f) (h : Fin 4) {o : ℕ} (ho : o = 256 + h.val)
    (inb : ∀ a, (![b.val, 0, o] : Fin 3 → ℕ) a + (![1, 256, 1] : Fin 3 → ℕ) a ≤ S2x256x264.size a) :
    accM.view.readAt (Elt F) (Rect.unit (s := S2x256x264) ![b.val, 0, o] ![1, 256, 1] inb).toLoadRect f = sumOf X h := by
  funext y
  obtain ⟨z, i, j, rfl⟩ : ∃ (z : Fin 1) (i : Fin 256) (j : Fin 1), y = ix3 z i j := ⟨y 0, y 1, y 2, (eq_ix3 y)⟩
  obtain rfl : z = 0 := Subsingleton.elim _ _
  have hh := h.isLt
  have hj : j.val = 0 := by have := j.isLt; omega
  refine (read_acc inb f b rfl i j ⟨o + j.val, by omega⟩ rfl).trans ?_
  rw [show (⟨o + j.val, by omega⟩ : Fin 264) = col ⟨256 + h.val, by omega⟩ from Fin.ext (by show o + j.val = 256 + h.val; omega)]
  exact hf i _

/-- The rows batch 0 and batch 1 come to, from the summed block. -/
def row0 (I : Ins F) (X : Blk F) : FVec F S1x256x512 .f32 :=
  k0_pay57 (k0_pay55 (ctxOf X 0) (sumOf X 0) (w0 I)) (k0_pay56 (ctxOf X 1) (sumOf X 1)) (w1 I) (ctxOf X 2) (sumOf X 2) (w2 I) (ctxOf X 3) (sumOf X 3) (w3 I)
def row1 (I : Ins F) (X : Blk F) : FVec F S1x256x512 .f32 :=
  k0_pay1 (k0_pay59 (ctxOf X 0) (sumOf X 0) (w0 I) (ctxOf X 1) (sumOf X 1) (w1 I)) (k0_pay60 (ctxOf X 2) (sumOf X 2)) (k0_pay61 (w2 I)) (ctxOf X 3) (sumOf X 3) (w3 I)

/-- What the result buffer ends with. -/
def outAt (I : Ins F) (X Y : Blk F) : (cc0_stg5_0 : Ref sig .tc).ty.Contents (Elt F) := fun (y : S2x256x512.Idx) =>
  if (y 0).val = 0 then row0 I X (ix3 (0 : Fin 1) (y 1) (y 2)) else row1 I Y (ix3 (0 : Fin 1) (y 1) (y 2))

abbrev out0R : Rect S2x256x512 := Rect.unit (s := S2x256x512) ![0, 0, 0] S1x256x512.size inb_S2x256x512_S1x256x512_0_0_0
abbrev out1R : Rect S2x256x512 := Rect.unit (s := S2x256x512) ![1, 0, 0] S1x256x512.size inb_S2x256x512_S1x256x512_1_0_0

omit [FloatOps F] in
theorem emb_out {b : ℕ} (inb : ∀ a, (![b, 0, 0] : Fin 3 → ℕ) a + S1x256x512.size a ≤ S2x256x512.size a) (b' : Fin 2) (hb : b'.val = b) (i : Fin 256) (j : Fin 512) :
    (Rect.unit (s := S2x256x512) ![b, 0, 0] S1x256x512.size inb).emb (ix3 (0 : Fin 1) i j : S1x256x512.Idx) = ix3 b' i j := by
  refine funext (Fin.forall_fin_succ.mpr ⟨?_, Fin.forall_fin_two.mpr ⟨?_, ?_⟩⟩) <;> apply Fin.ext
  · show b + 1 * 0 = b'.val
    omega
  · show 0 + 1 * i.val = i.val
    omega
  · show 0 + 1 * j.val = j.val
    omega

/-- The two stores cover the result whatever it held. -/
theorem write_out (I : Ins F) (X Y : Blk F) (f : (cc0_stg5_0 : Ref sig .tc).ty.Contents (Elt F)) :
    (rM.access out1R).write (Elt F) ((rM.access out0R).write (Elt F) f (row0 I X) Finset.univ) (row1 I Y) Finset.univ = outAt I X Y := by
  funext y
  obtain ⟨b, i, j, rfl⟩ : ∃ (b : Fin 2) (i : Fin 256) (j : Fin 512), y = ix3 b i j := ⟨y 0, y 1, y 2, (eq_ix3 (y : S2x256x512.Idx))⟩
  have e1 : ∀ g w, (rM.access out1R).write (Elt F) g w Finset.univ (ix3 (1 : Fin 2) i j) = w (ix3 (0 : Fin 1) i j) := fun g w => by
    rw [← emb_out inb_S2x256x512_S1x256x512_1_0_0 1 rfl i j]
    exact View.write_emb_of_mem (v := (View.whole cc0_stg5_0).slice out1R) g w (Finset.mem_univ _)
  have e0 : ∀ g w, (rM.access out0R).write (Elt F) g w Finset.univ (ix3 (0 : Fin 2) i j) = w (ix3 (0 : Fin 1) i j) := fun g w => by
    rw [← emb_out inb_S2x256x512_S1x256x512_0_0_0 0 rfl i j]
    exact View.write_emb_of_mem (v := (View.whole cc0_stg5_0).slice out0R) g w (Finset.mem_univ _)
  have n1 : ∀ g w, (rM.access out1R).write (Elt F) g w Finset.univ (ix3 (0 : Fin 2) i j) = g (ix3 (0 : Fin 2) i j) := fun g w => by
    refine View.write_of_not_mem (v := (View.whole cc0_stg5_0).slice out1R) g w Finset.univ fun hm => ?_
    have hx' : (ix3 (0 : Fin 2) i j : S2x256x512.Idx) ∈ ((View.whole cc0_stg5_0).slice out1R).set := hm
    rw [View.set_slice_whole, Rect.mem_set_unit] at hx'
    exact absurd (show 1 ≤ 0 from (hx' 0).1) (by decide)
  match b with
  | 0 => rw [n1, e0]; rfl
  | 1 => rw [e1]; rfl

section Exchange
variable (I : Dev nD → Ins F) (K : GSem nD τ sig → ℕ) (c : Dev nD)

/-- Batch `b` summed over all the devices, as device `c` has it. -/
abbrev total (b : Fin 2) : Blk F := part (shares I) b 3 c

theorem part17 {α : Type} {Q : α → sProp 𝕄} {kk : (Σ' (v500 : FVec F S256x512 .f32), FVec F S256x64 .bf16) → Prog (TpuEff nD τ sig (Elt F) Λ₀ .tc) α} :
    iprop(known I K ∗ toRecv c 4 ∗ accAt (shares I) 0 2 c ∗ own1 c cc0_stg4_0 (I c).o ∗ owing c 0)
      ⊢ iprop(((received c 4 ∗ accAt (shares I) 0 3 c ∗ own1 c cc0_stg4_0 (I c).o ∗ owing c 0)
            -∗ WP c (kk ⟨k0_pay55 (ctxOf (total I c 0) 0) (sumOf (total I c 0) 0) (w0 (I c)), k0_pay56 (ctxOf (total I c 0) 1) (sumOf (total I c 0) 1)⟩) Q)
          -∗ WP c (onBufs (k0_part17 (F := F)) >>= kk) Q) := by
  unfold onBufs
  rw [k0_part17_eq_skeleton]
  unfold k0_part17_skel
  simp only [Prog.lift, Prog.bind_op, Prog.bind_ret, Prog.pure_eq_ret]
  iintro ⟨#HK, Hr, Ha, Ho, HO⟩ Hc
  iapply (got I K c 4 (above_zero _) (P := k0_pay54) rfl) $$ [Hr Ha HO]
  · isplitr; · iexact HK
    isplitl [Hr]; · iexact Hr
    isplitl [HO]; · iexact HO
    iexact Ha
  rw [show accAt (shares I) (bo 4) ((so 4).val + 1) c = accAt (shares I) 0 3 c from rfl]
  unfold accAt
  iintro ⟨⟨%f, %hf, Ha⟩, Hr, HO⟩
  unfold accPts
  iapply (wp_load 𝒱₀ (c : Thread nD τ) none Set.univ (m := accM) (accR_sub 0 inb_S2x256x264_S1x256x64_0_0_0)) $$ Ha; iintro Ha
  iapply (wp_load 𝒱₀ (c : Thread nD τ) none Set.univ (m := accM) (accR_sub 0 inb_S2x256x264_S1x256x1_0_0_256)) $$ Ha; iintro Ha
  iapply (wp_load 𝒱₀ (c : Thread nD τ) none Set.univ (m := oM) (Finset.subset_univ _)) $$ Ho; iintro Ho
  iapply (wp_load 𝒱₀ (c : Thread nD τ) none Set.univ (m := accM) (accR_sub 0 inb_S2x256x264_S1x256x64_0_0_64)) $$ Ha; iintro Ha
  iapply (wp_load 𝒱₀ (c : Thread nD τ) none Set.univ (m := accM) (accR_sub 0 inb_S2x256x264_S1x256x1_0_0_257)) $$ Ha; iintro Ha
  rw [read_ctx (o := 0) (b := 0) (X := total I c 0) hf 0 rfl, read_ctx (o := 64) (b := 0) (X := total I c 0) hf 1 rfl,
    read_sum (o := 256) (b := 0) (X := total I c 0) hf 0 rfl, read_sum (o := 257) (b := 0) (X := total I c 0) hf 1 rfl]
  iapply Hc
  isplitl [Hr]; · iexact Hr
  isplitl [Ha]
  · iexists f; isplitr
    · ipureintro; exact hf
    · iexact Ha
  isplitl [Ho]; · iexact Ho
  iexact HO

theorem part18 (v2 : BitVec 32) {α : Type} {Q : α → sProp 𝕄} {kk : BitVec 32 → Prog (TpuEff nD τ sig (Elt F) Λ₀ .tc) α}
    (f : (cc0_stg5_0 : Ref sig .tc).ty.Contents (Elt F)) :
    iprop(accAt (shares I) 0 3 c ∗ own1 c cc0_stg4_0 (I c).o ∗ own1 c cc0_stg5_0 f)
      ⊢ iprop(((accAt (shares I) 0 3 c ∗ own1 c cc0_stg4_0 (I c).o
              ∗ own1 c cc0_stg5_0 ((rM.access out0R).write (Elt F) f (row0 (I c) (total I c 0)) Finset.univ)) -∗ WP c (kk (Scalar.xori v2 2#32)) Q)
          -∗ WP c (onBufs (k0_part18 (F := F)) v2 (k0_pay55 (ctxOf (total I c 0) 0) (sumOf (total I c 0) 0) (w0 (I c)))
              (k0_pay56 (ctxOf (total I c 0) 1) (sumOf (total I c 0) 1)) >>= kk) Q) := by
  unfold onBufs
  rw [k0_part18_eq_skeleton]
  unfold k0_part18_skel
  simp only [Prog.lift, Prog.bind_op, Prog.bind_ret, Prog.pure_eq_ret]
  unfold accAt
  iintro ⟨⟨%g, %hg, Ha⟩, Ho, Hf⟩ Hc
  unfold accPts
  iapply (wp_load 𝒱₀ (c : Thread nD τ) none Set.univ (m := oM) (Finset.subset_univ _)) $$ Ho; iintro Ho
  iapply (wp_load 𝒱₀ (c : Thread nD τ) none Set.univ (m := accM) (accR_sub 0 inb_S2x256x264_S1x256x64_0_0_128)) $$ Ha; iintro Ha
  iapply (wp_load 𝒱₀ (c : Thread nD τ) none Set.univ (m := accM) (accR_sub 0 inb_S2x256x264_S1x256x1_0_0_258)) $$ Ha; iintro Ha
  iapply (wp_load 𝒱₀ (c : Thread nD τ) none Set.univ (m := oM) (Finset.subset_univ _)) $$ Ho; iintro Ho
  iapply (wp_load 𝒱₀ (c : Thread nD τ) none Set.univ (m := accM) (accR_sub 0 inb_S2x256x264_S1x256x64_0_0_192)) $$ Ha; iintro Ha
  iapply (wp_load 𝒱₀ (c : Thread nD τ) none Set.univ (m := accM) (accR_sub 0 inb_S2x256x264_S1x256x1_0_0_259)) $$ Ha; iintro Ha
  iapply (wp_load 𝒱₀ (c : Thread nD τ) none Set.univ (m := oM) (Finset.subset_univ _)) $$ Ho; iintro Ho
  iapply (wp_load 𝒱₀ (c : Thread nD τ) none Set.univ (m := rM) (Finset.subset_univ _)) $$ Hf; iintro Hf
  rw [read_ctx (o := 128) (b := 0) (X := total I c 0) hg 2 rfl, read_ctx (o := 192) (b := 0) (X := total I c 0) hg 3 rfl,
    read_sum (o := 258) (b := 0) (X := total I c 0) hg 2 rfl, read_sum (o := 259) (b := 0) (X := total I c 0) hg 3 rfl]
  iapply (wp_store 𝒱₀ (c : Thread nD τ) none Set.univ (m := rM) (r := out0R) (Finset.subset_univ _)) $$ [Hf]; · iexact Hf
  iintro Hf
  iapply Hc
  isplitl [Ha]
  · iexists g; isplitr
    · ipureintro; exact hg
    · iexact Ha
  isplitl [Ho]; · iexact Ho
  iexact Hf

theorem part19 (w : BitVec 32) {α : Type} {Q : α → sProp 𝕄} {kk : PUnit → Prog (TpuEff nD τ sig (Elt F) Λ₀ .tc) α} :
    iprop(known I K ∗ going c 5 ∗ toRecv c 5 ∗ owing c 0)
      ⊢ iprop(((received c 5 ∗ accAt (shares I) 1 3 c ∗ atPos ER (sendCell 5 c) (0 + 1) ∅ 0 ∗ owing c 0) -∗ WP c (kk ⟨⟩) Q)
          -∗ WP c (onBufs (k0_part19 (F := F)) w >>= kk) Q) := by
  unfold onBufs
  rw [k0_part19_eq_skeleton]
  unfold k0_part19_skel
  simp only [Prog.lift, Prog.bind_op, Prog.bind_ret, Prog.pure_eq_ret]
  iintro ⟨#HK, Hg, Hr, HO⟩ Hc
  iapply (back I K c 5 (above_zero _)) $$ [Hg HO]
  · isplitr; · iexact HK
    isplitl [Hg]; · iexact Hg
    iexact HO
  iintro ⟨Ha, HO, Hat⟩
  iapply (got I K c 5 (above_zero _) (P := k0_pay58) rfl) $$ [Hr Ha HO]
  · isplitr; · iexact HK
    isplitl [Hr]; · iexact Hr
    isplitl [HO]; · iexact HO
    iexact Ha
  iintro ⟨Ha, Hr, HO⟩
  iapply Hc
  isplitl [Hr]; · iexact Hr
  isplitl [Ha]; · iexact Ha
  isplitl [Hat]; · iexact Hat
  iexact HO

theorem part20 {α : Type} {Q : α → sProp 𝕄}
    {kk : (Σ' (v590 : FVec F S256x512 .f32) (v599 : FVec F S256x64 .bf16), FVec F S64x512 .bf16) → Prog (TpuEff nD τ sig (Elt F) Λ₀ .tc) α} :
    iprop(accAt (shares I) 1 3 c ∗ own1 c cc0_stg4_0 (I c).o)
      ⊢ iprop(((accAt (shares I) 1 3 c ∗ own1 c cc0_stg4_0 (I c).o)
            -∗ WP c (kk ⟨k0_pay59 (ctxOf (total I c 1) 0) (sumOf (total I c 1) 0) (w0 (I c)) (ctxOf (total I c 1) 1) (sumOf (total I c 1) 1) (w1 (I c)),
              k0_pay60 (ctxOf (total I c 1) 2) (sumOf (total I c 1) 2), k0_pay61 (w2 (I c))⟩) Q)
          -∗ WP c (onBufs (k0_part20 (F := F)) >>= kk) Q) := by
  unfold onBufs
  rw [k0_part20_eq_skeleton]
  unfold k0_part20_skel
  simp only [Prog.lift, Prog.bind_op, Prog.bind_ret, Prog.pure_eq_ret]
  unfold accAt
  iintro ⟨⟨%g, %hg, Ha⟩, Ho⟩ Hc
  unfold accPts
  iapply (wp_load 𝒱₀ (c : Thread nD τ) none Set.univ (m := accM) (accR_sub 1 inb_S2x256x264_S1x256x64_1_0_0)) $$ Ha; iintro Ha
  iapply (wp_load 𝒱₀ (c : Thread nD τ) none Set.univ (m := accM) (accR_sub 1 inb_S2x256x264_S1x256x1_1_0_256)) $$ Ha; iintro Ha
  iapply (wp_load 𝒱₀ (c : Thread nD τ) none Set.univ (m := oM) (Finset.subset_univ _)) $$ Ho; iintro Ho
  iapply (wp_load 𝒱₀ (c : Thread nD τ) none Set.univ (m := accM) (accR_sub 1 inb_S2x256x264_S1x256x64_1_0_64)) $$ Ha; iintro Ha
  iapply (wp_load 𝒱₀ (c : Thread nD τ) none Set.univ (m := accM) (accR_sub 1 inb_S2x256x264_S1x256x1_1_0_257)) $$ Ha; iintro Ha
  iapply (wp_load 𝒱₀ (c : Thread nD τ) none Set.univ (m := oM) (Finset.subset_univ _)) $$ Ho; iintro Ho
  iapply (wp_load 𝒱₀ (c : Thread nD τ) none Set.univ (m := accM) (accR_sub 1 inb_S2x256x264_S1x256x64_1_0_128)) $$ Ha; iintro Ha
  iapply (wp_load 𝒱₀ (c : Thread nD τ) none Set.univ (m := accM) (accR_sub 1 inb_S2x256x264_S1x256x1_1_0_258)) $$ Ha; iintro Ha
  iapply (wp_load 𝒱₀ (c : Thread nD τ) none Set.univ (m := oM) (Finset.subset_univ _)) $$ Ho; iintro Ho
  rw [read_ctx (o := 0) (b := 1) (X := total I c 1) hg 0 rfl, read_ctx (o := 64) (b := 1) (X := total I c 1) hg 1 rfl, read_ctx (o := 128) (b := 1) (X := total I c 1) hg 2 rfl,
    read_sum (o := 256) (b := 1) (X := total I c 1) hg 0 rfl, read_sum (o := 257) (b := 1) (X := total I c 1) hg 1 rfl, read_sum (o := 258) (b := 1) (X := total I c 1) hg 2 rfl]
  iapply Hc
  isplitl [Ha]
  · iexists g; isplitr
    · ipureintro; exact hg
    · iexact Ha
  iexact Ho

end Exchange
end Cert.KernelIdeal.Hand
-- ==== Proof.BodyKernelIdeal.lean ====
module

public import proofs.«01_k».proof.Proof.OutKernelIdeal

@[expose] public section

noncomputable section

namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## What one device computes before the exchange -/

section Body
variable (I : Dev nD → Ins F) (K : GSem nD τ sig → ℕ) (c : Dev nD)

/-! ## The entry barrier -/

/-- What device `c` needs to enter across bit `j`: the two slots it hands over, its place in them, and the duty it meets. -/
def enter (j : Fin 3) : sProp 𝕄 :=
  iprop((∃ f, comPts (ka j) c f) ∗ (∃ f, comPts (kb j) c f) ∗ reached ER (recvCell (ka j) c) 0 ∗ reached ER (recvCell (kb j) c) 0
    ∗ dutyTok ER (barCell (pr j c)) 0 j ∗ reached ER (barCell (pr j c)) 0)

/-- One entry signal. -/
theorem step_signal (j : Fin 3) {α : Type} {Q : α → sProp 𝕄} (n : Dev nD) (hn : n = pr j c)
    {kk : PUnit → Prog (TpuEff nD τ sig (Elt F) Λ₀ .tc) α} (O : CellTallies nD τ sig Unit) :
    iprop(known I K ∗ enter c j ∗ owing c (O + oweB j c))
      ⊢ iprop((owing c O -∗ WP c (kk ⟨⟩) Q) -∗ WP c (.op (.semSignal (Dev.tc n : Thread nD τ) barS 1) kk) Q) := by
  subst hn
  unfold known enter owing
  iintro ⟨⟨#HR, #HL⟩, ⟨Hfa, Hfb, #Hra, #Hrb, Ht, #Hr⟩, ⟨%W, HO⟩⟩ Hk
  iapply (Rounds.wp_signal 𝒱₀ ER (Rd (shares I)) (c : Thread nD τ) none (dst := (pr j c : Thread nD τ)) (sem := barS) (κ := K (barCell (pr j c))) (r := 0) (d := j)
    (by rw [duties_bar]; exact Finset.mem_univ _) (k' := 1) (amount_bar (shares I) (pr j c) j) () O rfl (W := W)) $$ [Hfa Hfb Ht HO]
  · isplitr; · iapply (records_bar (shares I) K (pr j c)); iexact HR
    isplitl [HO]; · iexact HO
    isplitl [Ht]; · iexact Ht
    isplitl [Hfa Hfb]
    · rw [payload_bar]; unfold barPay; rw [pr_pr]
      isplitl [Hfa]; · iexact Hfa
      isplitl [Hfb]; · iexact Hfb
      isplitr; · iexact Hra
      iexact Hrb
    iexact Hr
  iintro HO
  iapply Hk
  iexists W; iexact HO

/-- The first part: enter across each bit, then wait for all three partners. -/
theorem part1 {α : Type} {Q : α → sProp 𝕄}
    {kk : (Σ' (d0 : Dev nD) (v2 : BitVec 32) (v15 : IVec S256x256 32) (v29 : IVec S256x256 1) (v31 : IVec S256x256 32), IVec S256x256 32) → Prog (TpuEff nD τ sig (Elt F) Λ₀ .tc) α} :
    iprop(known I K ∗ enter c 0 ∗ enter c 1 ∗ enter c 2 ∗ cred (tallyAt (barCell c) () 3) ∗ atPos ER (barCell c) 0 ∅ 0 ∗ owing c (O₀ c))
      ⊢ iprop(((barPay 0 c ∗ barPay 1 c ∗ barPay 2 c ∗ atPos ER (barCell c) (0 + 1) ∅ 0 ∗ owing c (owedR0 c))
            -∗ WP c (kk ⟨c, dw c, k0_pay2, k0_pay3, k0_pay4, k0_pay5⟩) Q)
          -∗ WP c (onBufs (k0_part1 (F := F)) >>= kk) Q) := by
  unfold onBufs
  rw [k0_part1_eq_skeleton]
  unfold k0_part1_skel
  simp only [semSignalWord, semWaitWord, Prog.lift, Prog.bind_op, Prog.bind_ret, Prog.pure_eq_ret, wp_deviceId]
  iintro ⟨#HK, H0, H1, H2, Hcr, Hat, HO⟩ Hc
  iapply (step_signal I K c 0 _ (dev1_pr c) (owedB1 c)) $$ [H0 HO]
  · isplitr; · iexact HK
    isplitl [H0]; · iexact H0
    iexact HO
  iintro HO
  iapply (step_signal I K c 1 _ (dev2_pr c) (owedB2 c)) $$ [H1 HO]
  · isplitr; · iexact HK
    isplitl [H1]; · iexact H1
    iexact HO
  iintro HO
  iapply (step_signal I K c 2 _ (dev3_pr c) (owedR0 c)) $$ [H2 HO]
  · isplitr; · iexact HK
    isplitl [H2]; · iexact H2
    iexact HO
  unfold owing known
  icases HK with ⟨#HR, #HL⟩
  iintro ⟨%W, HO⟩
  iapply (Rounds.wp_wait_rest_token 𝒱₀ ER (Rd (shares I)) (c : Thread nD τ) none (κ := K (barCell c))
      (wpE_semWait_eq 𝒱₀ (c : Thread nD τ) none Set.univ) (Set.mem_univ _) () (O := owedR0 c) (W := W) (R := 0) (m := 0) (T := ∅)
      (by rw [expect_bar]; decide)) $$ [Hcr HO Hat]
  · isplitr; · iapply (records_bar (shares I) K c); iexact HR
    isplitl [Hcr]; · iexact Hcr
    isplitl [HO]; · iexact HO
    isplitr; · iapply (mayWait_above c (.reg barS) (owedR0 c) (above0 (by decide) c)); iexact HL
    iexact Hat
  iintro ⟨HO, Hat, -, Hpay⟩
  ihave Hpay' : iprop(barPay 0 c ∗ barPay 1 c ∗ barPay 2 c) $$ [Hpay]
  · iapply (Entails.of_eq (rest_bar (shares I) c)); iexact Hpay
  icases Hpay' with ⟨Ha, Hb, Hd⟩
  iapply Hc
  isplitl [Ha]; · iexact Ha
  isplitl [Hb]; · iexact Hb
  isplitl [Hd]; · iexact Hd
  isplitl [Hat]; · iexact Hat
  iexists _; iexact HO

theorem part2 {α : Type} {Q : α → sProp 𝕄}
    {kk : (Σ' (v69 : IVec S256x256 1) (v72 : BitVec 32) (v74 : IVec S256x256 32) (v76 : IVec S256x256 1), IVec S256x256 32) → Prog (TpuEff nD τ sig (Elt F) Λ₀ .tc) α} :
    WP c (kk ⟨m69 c, m72, m74 c, m76 c, k0_pay11⟩) Q
      ⊢ WP c (onBufs (k0_part2 (F := F)) (dw c) k0_pay2 k0_pay3 k0_pay4 k0_pay5 >>= kk) Q := by
  unfold onBufs
  rw [k0_part2_eq_skeleton]
  unfold k0_part2_skel
  simp only [Prog.lift, Prog.bind_op, Prog.bind_ret, Prog.pure_eq_ret]
  exact .rfl

/-! ## The whole body -/

/-- What device `c` holds of exchange `k` at the start, beyond the partner's slot. -/
def exch (k : Fin 6) : sProp 𝕄 :=
  iprop(atPos ER (sendCell k c) 0 ∅ 0 ∗ reached ER (sendCell k c) 0 ∗ dutyTok ER (sendCell k c) 0 0
    ∗ dutyTok ER (recvCell k (pr (pj k) c)) 0 0 ∗ toRecv c k)
/-- The protocol's part of a device's start. -/
def ghost : sProp 𝕄 :=
  iprop(known I K ∗ cred (tallyAt (barCell c) () 3) ∗ atPos ER (barCell c) 0 ∅ 0 ∗ enter c 0 ∗ enter c 1 ∗ enter c 2
    ∗ exch c 0 ∗ exch c 1 ∗ exch c 2 ∗ exch c 3 ∗ exch c 4 ∗ exch c 5)
/-- The operands' buffers. -/
def operands : sProp 𝕄 :=
  iprop(own1 c cc0_stg0_0 (I c).x ∗ own1 c cc0_stg1_0 (I c).q ∗ own1 c cc0_stg2_0 (I c).k ∗ own1 c cc0_stg3_0 (I c).v ∗ own1 c cc0_stg4_0 (I c).o)
/-- Exchange `k` over: its slot back, its two semaphores at zero. -/
def over (k : Fin 6) : sProp 𝕄 := iprop((∃ f, comPts k c f) ∗ semVal (sendCell k c) 0 ∗ semVal (recvCell k c) 0)
/-- Everything over: the accumulator and the slots back, every semaphore of the protocol at zero. -/
def finished : sProp 𝕄 :=
  iprop((∃ f, accPts 0 c f) ∗ (∃ f, accPts 1 c f) ∗ over c 0 ∗ over c 1 ∗ over c 2 ∗ over c 3 ∗ over c 4 ∗ over c 5 ∗ semVal (barCell c) 0)

omit [FloatOps F] in
theorem take_go (k : Fin 6) :
    iprop(exch (F := F) c k ∗ (∃ f, comPts k (pr (pj k) c) f) ∗ reached ER (recvCell k (pr (pj k) c)) 0)
      ⊢ iprop(goSend c k ∗ atPos ER (sendCell k c) 0 ∅ 0 ∗ toRecv c k) := by
  unfold exch goSend
  iintro ⟨⟨Hat, Hr, Ht, Ht', Hv⟩, Hf, Hr'⟩
  isplitr [Hat Hv]
  · isplitl [Hf]; · iexact Hf
    isplitl [Ht]; · iexact Ht
    isplitl [Hr]; · iexact Hr
    isplitl [Ht']; · iexact Ht'
    iexact Hr'
  isplitl [Hat]; · iexact Hat
  iexact Hv

/-- Past its round, exchange `k`'s cells close and give their semaphores back at zero. -/
theorem close (k : Fin 6) :
    iprop(known I K ∗ received c k ∗ atPos ER (sendCell k c) (0 + 1) ∅ 0) ⊢ iprop(|={Set.univ}=> over c k) := by
  unfold known received over
  iintro ⟨⟨#HR, #HL⟩, ⟨Hf, Hr⟩, Hs⟩
  imod (Rounds.cell_close ER (Rd (shares I)) (Set.mem_univ (K (sendCell k c))) (fun h => h) (R := 0 + 1) (duties_later (shares I) (sendCell k c))) $$ [Hs] with Hs
  · isplitr; · iapply (records_send (shares I) K k c); iexact HR
    iexact Hs
  imod (Rounds.cell_close ER (Rd (shares I)) (Set.mem_univ (K (recvCell k c))) (fun h => h) (R := 0 + 1) (duties_later (shares I) (recvCell k c))) $$ [Hr] with Hr
  · isplitr; · iapply (records_recv (shares I) K k c); iexact HR
    iexact Hr
  imodintro
  isplitl [Hf]; · iexact Hf
  isplitl [Hs]; · iexact Hs
  iexact Hr

theorem close_bar : iprop(known I K ∗ atPos ER (barCell c) (0 + 1) ∅ 0) ⊢ iprop(|={Set.univ}=> semVal (barCell c) 0) := by
  unfold known
  iintro ⟨⟨#HR, #HL⟩, Hb⟩
  imod (Rounds.cell_close ER (Rd (shares I)) (Set.mem_univ (K (barCell c))) (fun h => h) (R := 0 + 1) (duties_later (shares I) (barCell c))) $$ [Hb] with Hb
  · isplitr; · iapply (records_bar (shares I) K c); iexact HR
    iexact Hb
  imodintro
  iexact Hb

/-- The body on device `c`: from the operands and the protocol's start to the result and the protocol's end. -/
theorem body_runs (f : (cc0_stg5_0 : Ref sig .tc).ty.Contents (Elt F)) :
    iprop(operands I c ∗ own1 c cc0_stg5_0 f ∗ (∃ f, accPts 0 c f) ∗ (∃ f, accPts 1 c f) ∗ ghost I K c ∗ owing c (O₀ c))
      ⊢ WP c (onBufs (cc0_body (F := F)))
          (fun _ => iprop(operands I c ∗ own1 c cc0_stg5_0 (outAt (I c) (total I c 0) (total I c 1)) ∗ finished c ∗ owing c 0)) := by
  unfold onBufs
  simp only [cc0_body_eq_skeleton]
  unfold cc0_body_skel
  unfold operands ghost
  iintro ⟨⟨Hx, Hq, Hk, Hv, Ho⟩, Hout, ⟨%fa, Ha⟩, ⟨%fb, Hb⟩, ⟨#HK, Hcr, Hbar, He0, He1, He2, H0, H1, H2, H3, H4, H5⟩, HO⟩
  iapply (part1 I K c) $$ [He0 He1 He2 Hcr Hbar HO]
  · isplitr; · iexact HK
    isplitl [He0]; · iexact He0
    isplitl [He1]; · iexact He1
    isplitl [He2]; · iexact He2
    isplitl [Hcr]; · iexact Hcr
    isplitl [Hbar]; · iexact Hbar
    iexact HO
  unfold barPay
  iintro ⟨⟨Hf0, Hf3, Hr0, Hr3⟩, ⟨Hf2, Hf5, Hr2, Hr5⟩, ⟨Hf1, Hf4, Hr1, Hr4⟩, Hbar, HO⟩
  ihave G0 : iprop(goSend c 0 ∗ atPos ER (sendCell 0 c) 0 ∅ 0 ∗ toRecv c 0) $$ [H0 Hf0 Hr0]
  · iapply (take_go c 0); isplitl [H0]; · iexact H0
    isplitl [Hf0]; · iexact Hf0
    iexact Hr0
  ihave G1 : iprop(goSend c 1 ∗ atPos ER (sendCell 1 c) 0 ∅ 0 ∗ toRecv c 1) $$ [H1 Hf1 Hr1]
  · iapply (take_go c 1); isplitl [H1]; · iexact H1
    isplitl [Hf1]; · iexact Hf1
    iexact Hr1
  ihave G2 : iprop(goSend c 2 ∗ atPos ER (sendCell 2 c) 0 ∅ 0 ∗ toRecv c 2) $$ [H2 Hf2 Hr2]
  · iapply (take_go c 2); isplitl [H2]; · iexact H2
    isplitl [Hf2]; · iexact Hf2
    iexact Hr2
  ihave G3 : iprop(goSend c 3 ∗ atPos ER (sendCell 3 c) 0 ∅ 0 ∗ toRecv c 3) $$ [H3 Hf3 Hr3]
  · iapply (take_go c 3); isplitl [H3]; · iexact H3
    isplitl [Hf3]; · iexact Hf3
    iexact Hr3
  ihave G4 : iprop(goSend c 4 ∗ atPos ER (sendCell 4 c) 0 ∅ 0 ∗ toRecv c 4) $$ [H4 Hf4 Hr4]
  · iapply (take_go c 4); isplitl [H4]; · iexact H4
    isplitl [Hf4]; · iexact Hf4
    iexact Hr4
  ihave G5 : iprop(goSend c 5 ∗ atPos ER (sendCell 5 c) 0 ∅ 0 ∗ toRecv c 5) $$ [H5 Hf5 Hr5]
  · iapply (take_go c 5); isplitl [H5]; · iexact H5
    isplitl [Hf5]; · iexact Hf5
    iexact Hr5
  icases G0 with ⟨G0, A0, V0⟩
  icases G1 with ⟨G1, A1, V1⟩
  icases G2 with ⟨G2, A2, V2⟩
  icases G3 with ⟨G3, A3, V3⟩
  icases G4 with ⟨G4, A4, V4⟩
  icases G5 with ⟨G5, A5, V5⟩
  iapply (part2 c)
  iapply (part3 (I c) c (blk (I c) c 0)) $$ [Hx Hq Hk Hv Ha]
  · isplitl [Hx]; · iexact Hx
    isplitl [Hq]; · iexact Hq
    isplitl [Hk]; · iexact Hk
    isplitl [Hv]; · iexact Hv
    unfold filled; iexists fa; isplitr; · (ipureintro; exact fill_zero 0 _ fa)
    iexact Ha
  iintro ⟨Hx, Hq, Hk, Hv, Ha⟩
  iapply (part4 (I c) c) $$ [Hk Hv Ha]
  · isplitl [Hk]; · iexact Hk
    isplitl [Hv]; · iexact Hv
    iexact Ha
  iintro ⟨Hk, Hv, Ha⟩
  iapply (part5 (I c) c) $$ [Hk Hv Ha]
  · isplitl [Hk]; · iexact Hk
    isplitl [Hv]; · iexact Hv
    iexact Ha
  iintro ⟨Hk, Hv, Ha⟩
  iapply (part6 I K c) $$ [Hx Hq Hv Ha G0 A0 HO]
  · isplitr; · iexact HK
    isplitl [Hx]; · iexact Hx
    isplitl [Hq]; · iexact Hq
    isplitl [Hv]; · iexact Hv
    isplitl [Ha]; · iexact Ha
    isplitl [G0]; · iexact G0
    isplitl [A0]; · iexact A0
    iexact HO
  iintro ⟨Hx, Hq, Hv, G0, HO⟩
  iapply (part7 (I c) c) $$ [Hk Hv Hb]
  · isplitl [Hk]; · iexact Hk
    isplitl [Hv]; · iexact Hv
    unfold filled; iexists fb; isplitr; · (ipureintro; exact fill_zero 1 _ fb)
    iexact Hb
  iintro ⟨Hk, Hv, Hb⟩
  iapply (part8 (I c) c) $$ [Hk Hv Hb]
  · isplitl [Hk]; · iexact Hk
    isplitl [Hv]; · iexact Hv
    iexact Hb
  iintro ⟨Hk, Hv, Hb⟩
  iapply (part9 (I c) c) $$ [Hk Hv Hb]
  · isplitl [Hk]; · iexact Hk
    isplitl [Hv]; · iexact Hv
    iexact Hb
  iintro ⟨Hk, Hv, Hb⟩
  iapply (part10 I K c) $$ [Hb G1 A1 G0 HO]
  · isplitr; · iexact HK
    isplitl [Hb]; · iexact Hb
    isplitl [G1]; · iexact G1
    isplitl [A1]; · iexact A1
    isplitl [G0]; · iexact G0
    iexact HO
  iintro ⟨G1, Ha, A0, HO⟩
  iapply (part11 I K c) $$ [V0 Ha G2 A2 HO]
  · isplitr; · iexact HK
    isplitl [V0]; · iexact V0
    isplitl [Ha]; · iexact Ha
    isplitl [G2]; · iexact G2
    isplitl [A2]; · iexact A2
    iexact HO
  iintro ⟨V0, G2, HO⟩
  iapply (part12 I K c) $$ [G1 V1 HO]
  · isplitr; · iexact HK
    isplitl [G1]; · iexact G1
    isplitl [V1]; · iexact V1
    iexact HO
  iintro ⟨V1, Hb, A1, HO⟩
  iapply (part13 I K c) $$ [Hb G3 A3 G2 HO]
  · isplitr; · iexact HK
    isplitl [Hb]; · iexact Hb
    isplitl [G3]; · iexact G3
    isplitl [A3]; · iexact A3
    isplitl [G2]; · iexact G2
    iexact HO
  iintro ⟨G3, Ha, A2, HO⟩
  iapply (part14 I K c) $$ [V2 Ha G4 A4 HO]
  · isplitr; · iexact HK
    isplitl [V2]; · iexact V2
    isplitl [Ha]; · iexact Ha
    isplitl [G4]; · iexact G4
    isplitl [A4]; · iexact A4
    iexact HO
  iintro ⟨V2, G4, HO⟩
  iapply (part15 I K c) $$ [G3 V3 HO]
  · isplitr; · iexact HK
    isplitl [G3]; · iexact G3
    isplitl [V3]; · iexact V3
    iexact HO
  iintro ⟨V3, Hb, A3, HO⟩
  iapply (part16 I K c) $$ [Hb G5 A5 G4 HO]
  · isplitr; · iexact HK
    isplitl [Hb]; · iexact Hb
    isplitl [G5]; · iexact G5
    isplitl [A5]; · iexact A5
    isplitl [G4]; · iexact G4
    iexact HO
  iintro ⟨G5, Ha, A4, HO⟩
  iapply (part17 I K c) $$ [V4 Ha Ho HO]
  · isplitr; · iexact HK
    isplitl [V4]; · iexact V4
    isplitl [Ha]; · iexact Ha
    isplitl [Ho]; · iexact Ho
    iexact HO
  iintro ⟨V4, Ha, Ho, HO⟩
  iapply (part18 I c _ f) $$ [Ha Ho Hout]
  · isplitl [Ha]; · iexact Ha
    isplitl [Ho]; · iexact Ho
    iexact Hout
  iintro ⟨Ha, Ho, Hout⟩
  iapply (part19 I K c) $$ [G5 V5 HO]
  · isplitr; · iexact HK
    isplitl [G5]; · iexact G5
    isplitl [V5]; · iexact V5
    iexact HO
  iintro ⟨V5, Hb, A5, HO⟩
  iapply (part20 I c) $$ [Hb Ho]
  · isplitl [Hb]; · iexact Hb
    iexact Ho
  simp only [Prog.lift, Prog.bind_op, Prog.bind_ret, Prog.pure_eq_ret]
  unfold accAt
  iintro ⟨⟨%g, %hg, Hb⟩, Ho⟩
  unfold accPts
  iapply (wp_load 𝒱₀ (c : Thread nD τ) none Set.univ (m := accM) (accR_sub 1 inb_S2x256x264_S1x256x64_1_0_192)) $$ Hb; iintro Hb
  iapply (wp_load 𝒱₀ (c : Thread nD τ) none Set.univ (m := accM) (accR_sub 1 inb_S2x256x264_S1x256x1_1_0_259)) $$ Hb; iintro Hb
  iapply (wp_load 𝒱₀ (c : Thread nD τ) none Set.univ (m := oM) (Finset.subset_univ _)) $$ Ho; iintro Ho
  iapply (wp_load 𝒱₀ (c : Thread nD τ) none Set.univ (m := rM) (Finset.subset_univ _)) $$ Hout; iintro Hout
  rw [read_ctx (o := 192) (b := 1) (X := total I c 1) hg 3 rfl, read_sum (o := 259) (b := 1) (X := total I c 1) hg 3 rfl]
  iapply (wp_store 𝒱₀ (c : Thread nD τ) none Set.univ (m := rM) (r := out1R) (Finset.subset_univ _)) $$ [Hout]; · iexact Hout
  iintro Hout
  rw [wp_ret]
  imod (close I K c 0) $$ [V0 A0] with C0
  · isplitr; · iexact HK
    isplitl [V0]; · iexact V0
    iexact A0
  imod (close I K c 1) $$ [V1 A1] with C1
  · isplitr; · iexact HK
    isplitl [V1]; · iexact V1
    iexact A1
  imod (close I K c 2) $$ [V2 A2] with C2
  · isplitr; · iexact HK
    isplitl [V2]; · iexact V2
    iexact A2
  imod (close I K c 3) $$ [V3 A3] with C3
  · isplitr; · iexact HK
    isplitl [V3]; · iexact V3
    iexact A3
  imod (close I K c 4) $$ [V4 A4] with C4
  · isplitr; · iexact HK
    isplitl [V4]; · iexact V4
    iexact A4
  imod (close I K c 5) $$ [V5 A5] with C5
  · isplitr; · iexact HK
    isplitl [V5]; · iexact V5
    iexact A5
  imod (close_bar I K c) $$ [Hbar] with Hbar
  · isplitr; · iexact HK
    iexact Hbar
  imodintro
  icases Ha with ⟨%h, -, Ha⟩
  isplitl [Hx Hq Hk Hv Ho]
  · isplitl [Hx]; · iexact Hx
    isplitl [Hq]; · iexact Hq
    isplitl [Hk]; · iexact Hk
    isplitl [Hv]; · iexact Hv
    iexact Ho
  isplitl [Hout]
  · rw [← write_out (I c) (total I c 0) (total I c 1) f]
    iexact Hout
  isplitr [HO]
  · unfold finished accPts
    isplitl [Ha]; · iexists h; iexact Ha
    isplitl [Hb]; · iexists g; iexact Hb
    isplitl [C0]; · iexact C0
    isplitl [C1]; · iexact C1
    isplitl [C2]; · iexact C2
    isplitl [C3]; · iexact C3
    isplitl [C4]; · iexact C4
    isplitl [C5]; · iexact C5
    iexact Hbar
  iexact HO

end Body
end Cert.KernelIdeal.Hand
-- ==== Proof.RegionKernelIdeal.lean ====
/-
# The kernel as a region of the program

The staged operands as the region finds them, what the region keeps between its entry and its exit, and the
region's record: entered from the protocol's share dealt at the launch, left with the result's array written
and every semaphore of the kernel at zero.
-/
module

public import proofs.«01_k».proof.Proof.BodyKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Conjunctions over three and six -/

omit [FloatOps F] in
theorem bigSep3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- A conjunction's parts may be weakened one by one; -/
theorem each {J : Type} [Fintype J] {Φ Ψ : J → sProp 𝕄} (h : ∀ i, Φ i ⊢ Ψ i) : bigSep Finset.univ Φ ⊢ bigSep Finset.univ Ψ :=
  bigSep_mono fun i _ => h i
omit [FloatOps F] in
/-- one of them may be kept alone; -/
theorem one_of {J : Type} [Fintype J] [DecidableEq J] (Φ : J → sProp 𝕄) (i : J) : bigSep Finset.univ Φ ⊢ Φ i := bigSep_elim (Finset.mem_univ i)
omit [FloatOps F] in
/-- two conjunctions are one of pairs. -/
theorem both {J : Type} [Fintype J] (Φ Ψ : J → sProp 𝕄) :
    iprop(bigSep Finset.univ Φ ∗ bigSep Finset.univ Ψ) ⊢ bigSep Finset.univ fun i => iprop(Φ i ∗ Ψ i) :=
  Entails.of_eq (bigSep_sep' Finset.univ Φ Ψ).symm

/-! ## The scratch buffers, in batches and slots -/

/-- The elements of the accumulator's batch `b`; -/
abbrev accI (b : Fin 2) : Finset (cc0_scratch0 : Ref sig .tc).ty.Idx := (accV b).view.set
/-- and of landing slot `k`. -/
abbrev comI (k : Fin 6) : Finset (cc0_scratch1 : Ref sig .tc).ty.Idx := (comV k).view.set

theorem acc_apart : ∀ b b' : Fin 2, b ≠ b' → Disjoint (accI b) (accI b') := fun b b' h =>
  Finset.disjoint_left.mpr fun x hx hx' => h (Fin.ext ((mem_acc.mp hx).symm.trans (mem_acc.mp hx')))
theorem acc_cover : Finset.univ.biUnion accI = Finset.univ :=
  Finset.eq_univ_iff_forall.mpr fun x => Finset.mem_biUnion.mpr ⟨x 0, Finset.mem_univ _, mem_acc.mpr rfl⟩
theorem so_bo : ∀ k k' : Fin 6, (so k).val = (so k').val → (bo k).val = (bo k').val → k = k' := by decide
theorem so_bo_onto : ∀ (s : Fin 3) (b : Fin 2), ∃ k : Fin 6, s.val = (so k).val ∧ b.val = (bo k).val := by decide
theorem com_apart : ∀ k k' : Fin 6, k ≠ k' → Disjoint (comI k) (comI k') := fun k k' h =>
  Finset.disjoint_left.mpr fun x hx hx' => h (so_bo k k' ((mem_com.mp hx).1.symm.trans (mem_com.mp hx').1) ((mem_com.mp hx).2.symm.trans (mem_com.mp hx').2))
theorem com_cover : Finset.univ.biUnion comI = Finset.univ :=
  Finset.eq_univ_iff_forall.mpr fun x => by
    obtain ⟨k, h0, h1⟩ := so_bo_onto (x 0) (x 1)
    exact Finset.mem_biUnion.mpr ⟨k, Finset.mem_univ _, mem_com.mpr ⟨h0, h1⟩⟩

section Scratch
variable (c : Dev nD)

/-- The whole accumulator, at some contents. -/
def accAny : sProp 𝕄 := iprop(∃ f : AccBuf F c, ((c : Thread nD τ).loc cc0_scratch0) ↦{fullShare} f)
/-- The whole landing buffer, at some contents. -/
def comAny : sProp 𝕄 := iprop(∃ f : ComBuf F c, ((c : Thread nD τ).loc cc0_scratch1) ↦{fullShare} f)

omit [FloatOps F] in
theorem acc_blocks (f : AccBuf F c) : (((c : Thread nD τ).loc cc0_scratch0 ↦{fullShare} f : sProp 𝕄)) = iprop(accPts 0 c f ∗ accPts 1 c f) :=
  (Ring.pointsTo_blocks (ℓ := (c : Thread nD τ).loc cc0_scratch0) accI acc_apart acc_cover f).trans (bigSep_fin_two _)
omit [FloatOps F] in
theorem com_blocks (f : ComBuf F c) : (((c : Thread nD τ).loc cc0_scratch1 ↦{fullShare} f : sProp 𝕄)) = bigSep Finset.univ fun k : Fin 6 => comPts k c f :=
  Ring.pointsTo_blocks (ℓ := (c : Thread nD τ).loc cc0_scratch1) comI com_apart com_cover f

omit [FloatOps F] in
theorem acc_split : (accAny c : sProp 𝕄) ⊢ iprop((∃ f, accPts 0 c f) ∗ (∃ f, accPts 1 c f)) := by
  unfold accAny
  iintro ⟨%f, H⟩
  ihave H' := (Entails.of_eq (acc_blocks c f)) $$ H
  icases H' with ⟨H0, H1⟩
  isplitl [H0]; · iexists f; iexact H0
  iexists f; iexact H1

omit [FloatOps F] in
theorem acc_join : iprop((∃ f, accPts 0 c f) ∗ (∃ f, accPts 1 c f)) ⊢ (accAny c : sProp 𝕄) := by
  have h (f : AccBuf F c) : (bigSep Finset.univ fun b : Fin 2 => iprop(∃ f, accPts b c f)) ⊢ (accAny c : sProp 𝕄) :=
    Ring.pointsTo_blocks_join_exists (ℓ := (c : Thread nD τ).loc cc0_scratch0) accI acc_apart acc_cover f
  have h2 : (bigSep Finset.univ fun b : Fin 2 => iprop(∃ f, accPts b c f)) = (iprop((∃ f, accPts 0 c f) ∗ (∃ f, accPts 1 c f)) : sProp 𝕄) := bigSep_fin_two _
  iintro ⟨⟨%f, H0⟩, H1⟩
  iapply ((Entails.of_eq h2.symm).trans (h f))
  isplitl [H0]; · iexists f; iexact H0
  iexact H1

omit [FloatOps F] in
theorem com_split : (comAny c : sProp 𝕄) ⊢ bigSep Finset.univ fun k : Fin 6 => iprop(∃ f, comPts k c f) := by
  have h (f : ComBuf F c) : ((c : Thread nD τ).loc cc0_scratch1 ↦{fullShare} f : sProp 𝕄) ⊢ bigSep Finset.univ fun k : Fin 6 => iprop(∃ f, comPts k c f) :=
    (Entails.of_eq (com_blocks c f)).trans (each fun k => by iintro H; iexists f; iexact H)
  unfold comAny
  iintro ⟨%f, H⟩
  iapply (h f); iexact H

omit [FloatOps F] in
theorem com_join : (bigSep Finset.univ fun k : Fin 6 => iprop(∃ f, comPts k c f)) ⊢ (comAny c : sProp 𝕄) := by
  have h (f : ComBuf F c) : (bigSep Finset.univ fun k : Fin 6 => iprop(∃ f, comPts k c f)) ⊢ (comAny c : sProp 𝕄) :=
    Ring.pointsTo_blocks_join_exists (ℓ := (c : Thread nD τ).loc cc0_scratch1) comI com_apart com_cover f
  have h6 := bigSep6 (fun k : Fin 6 => (iprop(∃ f, comPts k c f) : sProp 𝕄))
  refine (Entails.of_eq h6).trans ?_
  iintro ⟨⟨%f, H0⟩, H⟩
  iapply ((Entails.of_eq h6.symm).trans (h f))
  isplitl [H0]; · iexists f; iexact H0
  iexact H

end Scratch

/-! ## What the region is entered from and left with -/

variable (m : (ℓ : Loc nD τ sig) → Buf (Elt F) ℓ)

/-- Each device's operands, as staged. -/
def ins (c : Dev nD) : Ins F := ⟨iblk m c 0 t0_0, iblk m c 1 t0_0, iblk m c 2 t0_0, iblk m c 3 t0_0, iblk m c 4 t0_0⟩

/-- The result as the kernel leaves it in its staging buffer. -/
def res (c : Dev nD) : (cc0_stg5_0 : Ref sig .tc).ty.Contents (Elt F) := outAt (ins m c) (total (ins m) c 0) (total (ins m) c 1)

/-- The kernel's own semaphores. -/
abbrev osem : Fin 6 ⊕ Fin 6 → SemLoc sig := fun | .inl k => .dma (sendS k) | .inr k => .dma (recvS k)

section Entry
variable (K : GSem nD τ sig → ℕ) (c : Dev nD)

/-- The protocol's tokens a device pays with, its right to open its own cells, and its place at its barrier. -/
def linear : sProp 𝕄 :=
  iprop(atPos ER (barCell c) 0 ∅ 0
    ∗ (bigSep Finset.univ fun k : Fin 6 => openTok ER (sendCell k c)) ∗ (bigSep Finset.univ fun k : Fin 6 => openTok ER (recvCell k c))
    ∗ (bigSep Finset.univ fun j : Fin 3 => dutyTok ER (barCell (pr j c)) 0 j)
    ∗ (bigSep Finset.univ fun k : Fin 6 => dutyTok ER (sendCell k c) 0 0)
    ∗ (bigSep Finset.univ fun k : Fin 6 => dutyTok ER (recvCell k (pr (pj k) c)) 0 0))
/-- The credits dealt at launch: three signals at the barrier, one landing at each receive cell. -/
def creds : sProp 𝕄 := iprop(cred (tallyAt (barCell c) () 3) ∗ bigSep Finset.univ fun k : Fin 6 => cred (tallyAt (recvCell k c) () N))
/-- What every device reads: the cells' invariants, and that every barrier is at its first round. -/
def common : sProp 𝕄 := iprop(records (shares (ins m)) K ∗ bigSep Finset.univ fun d : Dev nD => reached ER (barCell d) 0)
instance common_persistent : BI.Persistent (common m K) := by unfold common; infer_instance

/-- Kept from the launch for the region. -/
def Tk : sProp 𝕄 := iprop((∃ K, common m K) ∗ linear c ∗ creds c)

/-- The protocol's share with the device's cells open. -/
def opened : sProp 𝕄 :=
  iprop(known (ins m) K ∗ (bigSep Finset.univ fun d : Dev nD => reached ER (barCell d) 0) ∗ creds c ∗ atPos ER (barCell c) 0 ∅ 0
    ∗ (bigSep Finset.univ fun k : Fin 6 => iprop(atPos ER (sendCell k c) 0 ∅ 0 ∗ reached ER (sendCell k c) 0))
    ∗ (bigSep Finset.univ fun k : Fin 6 => iprop(atPos ER (recvCell k c) 0 ∅ 0 ∗ reached ER (recvCell k c) 0))
    ∗ (bigSep Finset.univ fun j : Fin 3 => dutyTok ER (barCell (pr j c)) 0 j)
    ∗ (bigSep Finset.univ fun k : Fin 6 => dutyTok ER (sendCell k c) 0 0)
    ∗ (bigSep Finset.univ fun k : Fin 6 => dutyTok ER (recvCell k (pr (pj k) c)) 0 0))
def Xk : sProp 𝕄 := iprop(∃ K, opened m K c)

omit [FloatOps F] in
theorem ownSems_eq : (Pipeline.ownSems0 osem c : sProp 𝕄)
    = iprop((bigSep Finset.univ fun k : Fin 6 => semVal (sendCell k c) 0) ∗ (bigSep Finset.univ fun k : Fin 6 => semVal (recvCell k c) 0)) :=
  bigSep_univ_sum (fun k : Fin 6 ⊕ Fin 6 => (semVal ((c : Thread nD τ), osem k) 0 : sProp 𝕄))

/-- Opening six of a device's cells. -/
theorem open_six (cell : Fin 6 → GSem nD τ sig) (hK : ∀ k, records (shares (ins m)) K ⊢ cellInv ER (Rd (shares (ins m))) (K (cell k)) (cell k)) :
    iprop(records (shares (ins m)) K ∗ (bigSep Finset.univ fun k => openTok ER (cell k)) ∗ (bigSep Finset.univ fun k => semVal (cell k) 0))
      ⊢ (|={Set.univ}=> bigSep Finset.univ fun k => iprop(atPos ER (cell k) 0 ∅ 0 ∗ reached ER (cell k) 0) : sProp 𝕄) := by
  iintro ⟨#HR, Ho, Hs⟩
  iapply (bigSep_fupd Finset.univ _)
  iapply (bigSep_with_persistent (R := records (shares (ins m)) K) (Φ := fun k => iprop(openTok ER (cell k) ∗ semVal (cell k) 0)) fun k _ => by
    iintro ⟨#HR, Ho, Hs⟩
    iapply (Rounds.cell_open ER (Rd (shares (ins m))) (g := cell k) (Set.mem_univ (K (cell k))))
    isplitr; · iapply (hK k); iexact HR
    isplitl [Ho] <;> iassumption)
  isplitr; · iexact HR
  iapply (both (fun k => (openTok ER (cell k) : sProp 𝕄)) (fun k => semVal (cell k) 0))
  isplitl [Ho] <;> iassumption

/-- At the region's entry the device opens its twelve cells. -/
theorem region_open : iprop(Tk m c ∗ Pipeline.ownSems0 osem c ∗ levAts L lv) ⊢ (|={Set.univ}=> Xk m c : sProp 𝕄) := by
  rw [ownSems_eq]
  unfold Tk Xk common linear opened known
  iintro ⟨⟨⟨%K, #HR, #Hb⟩, ⟨HaB, HoS, HoV, Ht, HtS, HtV⟩, Hc⟩, ⟨Hs, Hv⟩, #Hlev⟩
  imod (open_six m K (fun k => sendCell k c) (fun k => records_send _ K k c)) $$ [HoS Hs] with HS
  · isplitr; · iexact HR
    isplitl [HoS] <;> iassumption
  imod (open_six m K (fun k => recvCell k c) (fun k => records_recv _ K k c)) $$ [HoV Hv] with HV
  · isplitr; · iexact HR
    isplitl [HoV] <;> iassumption
  imodintro
  iexists K
  isplitr
  · isplitr; · iexact HR
    iexact Hlev
  isplitr; · iexact Hb
  isplitl [Hc]; · iexact Hc
  isplitl [HaB]; · iexact HaB
  isplitl [HS]; · iexact HS
  isplitl [HV]; · iexact HV
  isplitl [Ht]; · iexact Ht
  isplitl [HtS] <;> iassumption

omit [FloatOps F] in
/-- The slots in the order the three entry signals hand them over. -/
theorem slots_by_partner (Φ : Fin 6 → sProp 𝕄) :
    bigSep Finset.univ Φ ⊢ iprop((Φ (ka 0) ∗ Φ (kb 0)) ∗ (Φ (ka 1) ∗ Φ (kb 1)) ∗ (Φ (ka 2) ∗ Φ (kb 2))) := by
  show _ ⊢ iprop((Φ 0 ∗ Φ 3) ∗ (Φ 2 ∗ Φ 5) ∗ (Φ 1 ∗ Φ 4))
  rw [bigSep6]
  iintro ⟨H0, H1, H2, H3, H4, H5⟩
  isplitl [H0 H3]
  · isplitl [H0]; · iexact H0
    iexact H3
  isplitl [H2 H5]
  · isplitl [H2]; · iexact H2
    iexact H5
  isplitl [H1]; · iexact H1
  iexact H4

/-- The protocol's start, from the opened cells and the landing slots. -/
theorem ghost_intro : iprop(opened m K c ∗ (bigSep Finset.univ fun k : Fin 6 => iprop(∃ f, comPts k c f))) ⊢ (ghost (ins m) K c : sProp 𝕄) := by
  unfold opened creds
  rw [bigSep_sep', bigSep_sep', bigSep3]
  iintro ⟨⟨#HK, #Hb, ⟨HcB, HcV⟩, HaB, ⟨HaS, #HrS⟩, ⟨HaV, #HrV⟩, ⟨T0, T1, T2⟩, HtS, HtV⟩, Hcom⟩
  ihave Hcom' := (slots_by_partner (fun k : Fin 6 => (iprop(∃ f, comPts k c f) : sProp 𝕄))) $$ Hcom
  icases Hcom' with ⟨⟨Ca0, Cb0⟩, ⟨Ca1, Cb1⟩, ⟨Ca2, Cb2⟩⟩
  have hex : iprop((bigSep Finset.univ fun k : Fin 6 => cred (tallyAt (recvCell k c) () N))
      ∗ (bigSep Finset.univ fun k : Fin 6 => atPos ER (sendCell k c) 0 ∅ 0) ∗ (bigSep Finset.univ fun k : Fin 6 => reached ER (sendCell k c) 0)
      ∗ (bigSep Finset.univ fun k : Fin 6 => atPos ER (recvCell k c) 0 ∅ 0)
      ∗ (bigSep Finset.univ fun k : Fin 6 => dutyTok ER (sendCell k c) 0 0)
      ∗ (bigSep Finset.univ fun k : Fin 6 => dutyTok ER (recvCell k (pr (pj k) c)) 0 0))
      ⊢ (bigSep Finset.univ fun k : Fin 6 => (exch c k : sProp 𝕄)) := by
    rw [← bigSep_sep', ← bigSep_sep', ← bigSep_sep', ← bigSep_sep', ← bigSep_sep']
    refine each fun k => ?_
    unfold exch toRecv
    iintro ⟨H1, H2, H3, H4, H5, H6⟩
    isplitl [H2]; · iexact H2
    isplitl [H3]; · iexact H3
    isplitl [H5]; · iexact H5
    isplitl [H6]; · iexact H6
    isplitl [H1] <;> iassumption
  ihave Hex := hex $$ [HcV HaS HaV HtS HtV]
  · isplitl [HcV]; · iexact HcV
    isplitl [HaS]; · iexact HaS
    isplitr; · iexact HrS
    isplitl [HaV]; · iexact HaV
    isplitl [HtS] <;> iassumption
  unfold ghost enter
  isplitr; · iexact HK
  isplitl [HcB]; · iexact HcB
  isplitl [HaB]; · iexact HaB
  isplitl [Ca0 Cb0 T0]
  · isplitl [Ca0]; · iexact Ca0
    isplitl [Cb0]; · iexact Cb0
    isplitr; · iapply (one_of (fun k : Fin 6 => (reached ER (recvCell k c) 0 : sProp 𝕄)) (ka 0)); iexact HrV
    isplitr; · iapply (one_of (fun k : Fin 6 => (reached ER (recvCell k c) 0 : sProp 𝕄)) (kb 0)); iexact HrV
    isplitl [T0]; · iexact T0
    iapply (one_of (fun d : Dev nD => (reached ER (barCell d) 0 : sProp 𝕄)) (pr 0 c)); iexact Hb
  isplitl [Ca1 Cb1 T1]
  · isplitl [Ca1]; · iexact Ca1
    isplitl [Cb1]; · iexact Cb1
    isplitr; · iapply (one_of (fun k : Fin 6 => (reached ER (recvCell k c) 0 : sProp 𝕄)) (ka 1)); iexact HrV
    isplitr; · iapply (one_of (fun k : Fin 6 => (reached ER (recvCell k c) 0 : sProp 𝕄)) (kb 1)); iexact HrV
    isplitl [T1]; · iexact T1
    iapply (one_of (fun d : Dev nD => (reached ER (barCell d) 0 : sProp 𝕄)) (pr 1 c)); iexact Hb
  isplitl [Ca2 Cb2 T2]
  · isplitl [Ca2]; · iexact Ca2
    isplitl [Cb2]; · iexact Cb2
    isplitr; · iapply (one_of (fun k : Fin 6 => (reached ER (recvCell k c) 0 : sProp 𝕄)) (ka 2)); iexact HrV
    isplitr; · iapply (one_of (fun k : Fin 6 => (reached ER (recvCell k c) 0 : sProp 𝕄)) (kb 2)); iexact HrV
    isplitl [T2]; · iexact T2
    iapply (one_of (fun d : Dev nD => (reached ER (barCell d) 0 : sProp 𝕄)) (pr 2 c)); iexact Hb
  iapply (Entails.of_eq (bigSep6 (fun k : Fin 6 => (exch c k : sProp 𝕄)))) $$ Hex

/-- The scratch buffers and the semaphores back, from what the body ends with. -/
theorem finished_elim : (finished c : sProp 𝕄) ⊢ iprop(accAny c ∗ comAny c ∗ Pipeline.ownSems0 osem c ∗ semVal (barCell c) 0) := by
  have hov : iprop(over c 0 ∗ over c 1 ∗ over c 2 ∗ over c 3 ∗ over c 4 ∗ over c 5) ⊢ (iprop(comAny c ∗ Pipeline.ownSems0 osem c) : sProp 𝕄) := by
    rw [ownSems_eq]
    refine (Entails.of_eq (bigSep6 (fun k : Fin 6 => (over c k : sProp 𝕄))).symm).trans ?_
    unfold over
    rw [bigSep_sep', bigSep_sep']
    iintro ⟨Hc, Hs, Hv⟩
    isplitl [Hc]; · iapply (com_join c); iexact Hc
    isplitl [Hs] <;> iassumption
  unfold finished
  iintro ⟨Ha, Hb, H0, H1, H2, H3, H4, H5, HB⟩
  isplitl [Ha Hb]
  · iapply (acc_join c)
    isplitl [Ha] <;> iassumption
  ihave H := hov $$ [H0 H1 H2 H3 H4 H5]
  · isplitl [H0]; · iexact H0
    isplitl [H1]; · iexact H1
    isplitl [H2]; · iexact H2
    isplitl [H3]; · iexact H3
    isplitl [H4] <;> iassumption
  icases H with ⟨Hc, Ho⟩
  isplitl [Hc]; · iexact Hc
  isplitl [Ho] <;> iassumption

end Entry

/-! ## The pipeline's data: one point, its invariant the scratch and the protocol -/

abbrev adm : (p : Fin 1) → (pcfgs (F := F) p).Adm := fun p => (cfgs p).toPCfg_adm

/-- Before the point: the opened protocol and the scratch. -/
def Φ₀ (c : Dev nD) : sProp 𝕄 := iprop(Xk m c ∗ accAny c ∗ comAny c ∗ ∃ r, prngReg c r)
/-- After it: the scratch, and every semaphore at zero. -/
def Φ₁ (c : Dev nD) : sProp 𝕄 := iprop(accAny c ∗ comAny c ∗ Pipeline.ownSems0 osem c ∗ semVal (barCell c) 0 ∗ ∃ r, prngReg c r)

/-- What a window's staging buffer holds after the point: an operand its block, the result `res`. -/
def left (c : Dev nD) : (w : Fin cfg0.W) → (cfg0.win w).block.Idx → Elt F (cfg0.win w).elt
  | 0 => iblk m c 0 t0_0
  | 1 => iblk m c 1 t0_0
  | 2 => iblk m c 2 t0_0
  | 3 => iblk m c 3 t0_0
  | 4 => iblk m c 4 t0_0
  | 5 => res m c

def dat (c : Dev nD) : Dat τ (Elt F) Unit ℕ UU ℕ cfg0 c where
  A w := V m c (Pipeline.arrRef spec0 w)
  after w _ := left m c w
  Φ t := if t.val = 0 then Φ₀ m c else Φ₁ c
  q _ := fullShare
  owed t := if t.val = 0 then O₀ c else 0

def pdats : (p : Fin 1) → (c : Dev nD) → Dat τ (Elt F) Unit ℕ UU ℕ (Pipeline.pin (pcfgs (F := F)) adm p) c
  | 0 => dat m

section Obligation
variable (c : Dev nD)

theorem owed_first : (dat m c).owed 0 = O₀ c := by
  show (if (0 : Fin (cfg0.N + 1)).val = 0 then O₀ c else 0) = _
  exact if_pos rfl
theorem owed_last : (dat m c).owed (Fin.last cfg0.N) = 0 := by
  show (if (Fin.last cfg0.N).val = 0 then O₀ c else 0) = 0
  rw [Fin.val_last, if_neg (by rw [show cfg0.N = 1 from N_0]; decide)]
theorem phi_first : (dat m c).Φ 0 = Φ₀ m c := by
  show (if (0 : Fin (cfg0.N + 1)).val = 0 then Φ₀ m c else Φ₁ c) = _
  exact if_pos rfl
theorem phi_last : (dat m c).Φ (Fin.last cfg0.N) = Φ₁ c := by
  show (if (Fin.last cfg0.N).val = 0 then Φ₀ m c else Φ₁ c) = _
  rw [Fin.val_last, if_neg (by rw [show cfg0.N = 1 from N_0]; decide)]

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staged operand, held as the pipeline hands it over. -/
def stg (b : Ref sig .tc) (X : b.ty.Contents (Elt F)) : sProp 𝕄 := iprop(∃ f : Buf (Elt F) ((c : Thread nD τ).loc b), ⌜f = X⌝ ∗ ((c : Thread nD τ).loc b) ↦{fullShare} f)

omit [FloatOps F] in
theorem stg_eq (b : Ref sig .tc) (X : b.ty.Contents (Elt F)) : stg c b X ⊢ (own1 c b X : sProp 𝕄) := by
  unfold stg own1; iintro ⟨%f, %h, H⟩; rw [h]; iexact H
omit [FloatOps F] in
theorem eq_stg (b : Ref sig .tc) (X : b.ty.Contents (Elt F)) : own1 c b X ⊢ (stg c b X : sProp 𝕄) := by
  unfold stg own1; iintro H; iexists X; isplitr; · ipureintro; rfl
  iexact H

def bodyPre : sProp 𝕄 :=
  iprop((dat m c).Φ 0 ∗ (dat m c).owesAt () 0
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)) ∗ (∃ d, stg c cc0_stg5_0 ((dat m c).before 5 t0_0 d)))
def bodyPost : sProp 𝕄 :=
  iprop((dat m c).Φ (Fin.last cfg0.N) ∗ (dat m c).owesAt () (Fin.last cfg0.N)
    ∗ stg c cc0_stg0_0 (ins m c).x ∗ stg c cc0_stg1_0 (ins m c).q ∗ stg c cc0_stg2_0 (ins m c).k ∗ stg c cc0_stg3_0 (ins m c).v
    ∗ stg c cc0_stg4_0 (ins m c).o ∗ stg c cc0_stg5_0 (res m c))

theorem before_0 (d) : (dat m c).before 0 t0_0 d = (ins m c).x := by unfold Dat.before; rw [if_pos (fetch0_0 _)]; rfl
theorem before_1 (d) : (dat m c).before 1 t0_0 d = (ins m c).q := by unfold Dat.before; rw [if_pos (fetch0_1 _)]; rfl
theorem before_2 (d) : (dat m c).before 2 t0_0 d = (ins m c).k := by unfold Dat.before; rw [if_pos (fetch0_2 _)]; rfl
theorem before_3 (d) : (dat m c).before 3 t0_0 d = (ins m c).v := by unfold Dat.before; rw [if_pos (fetch0_3 _)]; rfl
theorem before_4 (d) : (dat m c).before 4 t0_0 d = (ins m c).o := by unfold Dat.before; rw [if_pos (fetch0_4 _)]; rfl

theorem owesAt_elim : (dat m c).owesAt () 0 ⊢ (owing c (O₀ c) : sProp 𝕄) := by
  unfold Dat.owesAt Pipeline.owesWithin owing
  rw [owed_first]
  iintro ⟨%W, -, HO⟩; iexists W; iexact HO
theorem owesAt_intro : owing c 0 ⊢ ((dat m c).owesAt () (Fin.last cfg0.N) : sProp 𝕄) := by
  unfold Dat.owesAt Pipeline.owesWithin Dat.bound owing
  rw [owed_last]
  iintro ⟨%W, HO⟩
  iexists W
  isplitr; · ipureintro; exact fun _ _ => Or.inl trivial
  iexact HO

/-- The point's body, from the pipeline's holdings to the pipeline's holdings. -/
theorem point_runs : bodyPre m c ⊢ WP c (onBufs (cc0_body (F := F))) (fun _ => bodyPost m c) := by
  unfold bodyPre
  rw [phi_first]
  unfold Φ₀ Xk
  simp only [before_0, before_1, before_2, before_3, before_4]
  iintro ⟨⟨⟨%K, HX⟩, Ha, Hcom, Hp⟩, HO, ⟨%_, H0⟩, ⟨%_, H1⟩, ⟨%_, H2⟩, ⟨%_, H3⟩, ⟨%_, H4⟩, ⟨%d, H5⟩⟩
  ihave HO' := (owesAt_elim m c) $$ HO
  ihave Ha' := (acc_split c) $$ Ha
  icases Ha' with ⟨Ha0, Ha1⟩
  ihave Hs := (com_split c) $$ Hcom
  ihave Hg := (ghost_intro m K c) $$ [HX Hs]
  · isplitl [HX] <;> iassumption
  ihave H0' := (stg_eq c _ _) $$ H0
  ihave H1' := (stg_eq c _ _) $$ H1
  ihave H2' := (stg_eq c _ _) $$ H2
  ihave H3' := (stg_eq c _ _) $$ H3
  ihave H4' := (stg_eq c _ _) $$ H4
  ihave H5' := (stg_eq c _ _) $$ H5
  iapply (wp_wand frame (wpE (defs₀ (F := F)) 𝒱₀ c none)) $$ [H0' H1' H2' H3' H4' H5' Ha0 Ha1 Hg HO']
  · iapply (body_runs (ins m) K c _)
    isplitl [H0' H1' H2' H3' H4']
    · unfold operands
      isplitl [H0']; · iexact H0'
      isplitl [H1']; · iexact H1'
      isplitl [H2']; · iexact H2'
      isplitl [H3'] <;> iassumption
    isplitl [H5']; · iexact H5'
    isplitl [Ha0]; · iexact Ha0
    isplitl [Ha1]; · iexact Ha1
    isplitl [Hg] <;> iassumption
  iintro %_ ⟨Hop, H5, Hf, HO⟩
  ihave Hf' := (finished_elim c) $$ Hf
  icases Hf' with ⟨Ha, Hcom, Hs, Hb⟩
  unfold bodyPost operands
  rw [phi_last]
  unfold Φ₁
  icases Hop with ⟨H0, H1, H2, H3, H4⟩
  isplitl [Ha Hcom Hs Hb Hp]
  · isplitl [Ha]; · iexact Ha
    isplitl [Hcom]; · iexact Hcom
    isplitl [Hs]; · iexact Hs
    isplitl [Hb] <;> iassumption
  isplitl [HO]; · iapply (owesAt_intro m c); iexact HO
  isplitl [H0]; · iapply (eq_stg c _ _); iexact H0
  isplitl [H1]; · iapply (eq_stg c _ _); iexact H1
  isplitl [H2]; · iapply (eq_stg c _ _); iexact H2
  isplitl [H3]; · iapply (eq_stg c _ _); iexact H3
  isplitl [H4]; · iapply (eq_stg c _ _); iexact H4
  iapply (eq_stg c _ _); iexact H5

set_option maxRecDepth 4000 in
theorem body_obligation : BodyObligation (dat (F := F) m c) (defs₀ (F := F)) 𝒱₀ () Set.univ := fun t => by
  rw [fin_N0 t]
  rw [bigSep_W0, bigSep_W0]
  simp only [owns_whole]
  exact point_runs m c

end Obligation

end Cert.KernelIdeal.Hand
-- ==== Proof.LaunchKernelIdeal.lean ====
/-
# The run

The kernel's region between the program's host operations and its end, the protocol's records and tokens dealt at
the launch, and the run's theorem: every execution ends, each device's arguments as they were, its result written,
every semaphore at zero.
-/
module

public import proofs.«01_k».proof.Proof.RegionKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the region -/

/-- Every buffer of a device that outlives the kernel; those no window stages. -/
abbrev bufs : Finset (DevRef τ sig) := Pipeline.ucRefs τ sig
abbrev winBufs : Finset (DevRef τ sig) := Pipeline.arrRefs (τ := τ) spec0
abbrev others : Finset (DevRef τ sig) := bufs \ winBufs

/-- A device's buffers at launch, at the region's entry, and at its exit. -/
def V₀ (c : Dev nD) : Valuation τ sig (Elt F) := fun b => m (c, b)
def V₁ (c : Dev nD) : Valuation τ sig (Elt F) := StableHlo.after hostOps0 (V₀ m c)
def resArr (c : Dev nD) : Buf (Elt F) ((c : Thread nD τ).loc main_v3) := (dat m c).arrAt 5 cfg0.N
def V₂ (c : Dev nD) : Valuation τ sig (Elt F) := Function.update (V₁ m c) (Proc.devRef .tc main_v3) (resArr m c)

theorem V₂_result (c : Dev nD) : V₂ m c (Proc.devRef .tc main_v3) = resArr m c := Function.update_self ..
theorem V₂_else (c : Dev nD) {b : DevRef τ sig} (h : b ≠ Proc.devRef .tc main_v3) : V₂ m c b = V₁ m c b := Function.update_of_ne h ..

theorem winBufs_sub : winBufs ⊆ bufs := Pipeline.arrRefs_sub_ucRefs _ (by decide)

/-- What rides with a device's buffers until the region: the protocol's share, its generator register, its debts. -/
def rider (c : Dev nD) : sProp 𝕄 := iprop(Tk m c ∗ (∃ r, prngReg c r) ∗ owing c (O₀ c))

/-! ## The region's record -/

local notation "ℝ𝕊" => Pipeline.RegionSeg (pcfgs (F := F)) adm (pdats m) () defs₀ 𝒱₀ L lv

omit [FloatOps F] in
theorem held_none (c : Dev nD) (W : Valuation τ sig (Elt F)) : (StableHlo.held (c.tc : Thread nD τ) ∅ W : sProp 𝕄) = iprop(emp) := by
  unfold StableHlo.held; exact bigSep_empty

theorem region_in (c : Dev nD) :
    iprop(Pipeline.scopedRest (Pipeline.pin (pcfgs (F := F)) adm 0).spec c ∗ (∃ r, prngReg c r) ∗ StableHlo.held (c.tc : Thread nD τ) ∅ (V₁ m c) ∗ Xk m c)
      ⊢ (pdats m 0 c).Φ 0 := by
  rw [held_none]
  refine BIBase.Entails.trans ?_ (Entails.of_eq (phi_first m c).symm)
  unfold Φ₀
  iintro ⟨Hs, Hp, -, HX⟩
  ihave Hs' := (Entails.of_eq (scopedRest0_eq c)) $$ Hs
  icases Hs' with ⟨Ha, Hc⟩
  isplitl [HX]; · iexact HX
  isplitl [Ha]; · unfold accAny; iexact Ha
  isplitl [Hc]; · unfold comAny; iexact Hc
  iexact Hp

theorem region_out (c : Dev nD) : (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barCell c) 0) := by
  rw [held_none]
  refine (Entails.of_eq (phi_last m c)).trans ?_
  unfold Φ₁
  iintro ⟨Ha, Hc, Ho, Hb, Hp⟩
  isplitl [Ha Hc]
  · iapply (Entails.of_eq (scopedRest0_eq c).symm)
    unfold accAny comAny
    isplitl [Ha] <;> iassumption
  isplitl [Hp]; · iexact Hp
  isplitr; · iempintro
  isplitl [Ho] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_level : ∀ (w : Fin 6) (s : Fin (spec0 w).nbuf), rLevel (role (.dma ((spec0 w).sem s))) = 0 := by decide

theorem level_cut : Pipeline.LevelCutOwed (pcfgs (F := F)) adm (pdats m) () L lv 0 (fun _ => 0) where
  hι c w s := by rw [L_tc]; exact Finset.mem_singleton_self _
  hιb c w s := Nat.le_of_eq (stage_level w s)
  hD c t g i h := by
    have h' : 0 < (if t.val = 0 then O₀ c else 0) g i := h
    split at h'
    · exact aboveO c g i h'
    · exact absurd h' (Nat.lt_irrefl 0)

theorem result_ne : ∀ w : Fin 6, w ≠ 5 → Proc.devRef (τ := τ) .tc (Pipeline.arrRef spec0 w) ≠ Proc.devRef .tc main_v3 := by decide
theorem only_result_out : ∀ w : Fin 6, w ≠ 5 → (cfg0.win w).isOut = false := by decide
theorem result_in_win : Proc.devRef .tc main_v3 ∈ winBufs := by decide

theorem arrays_out (c : Dev nD) (w : Fin cfg0.W) : (dat m c).arrAt w cfg0.N = V₂ m c (Proc.devRef .tc (Pipeline.arrRef spec0 w)) := by
  by_cases h : w = 5
  · subst h; exact (V₂_result m c).symm
  · rw [V₂_else m c (result_ne w h)]
    exact (dat m c).arrAt_in w (only_result_out w h) _

set_option backward.isDefEq.respectTransparency.types false in
/-- The kernel's region. -/
def region : ℝ𝕊 0 :=
  Pipeline.RegionSeg.ofTalk (pcfgs (F := F)) adm (pdats m) () defs₀ 𝒱₀ L lv 0 osem (by decide : Pipeline.OwnSemFacts spec0 osem)
    ∅ (others) (Finset.empty_subset _) kit rfl (fun c => (body_obligation m c).loose)
    (fun _ => 0) O₀ (fun c => (owed_first m c).trans (zero_add _).symm) (owed_last m) (fun _ => rfl)
    (fun c w => by unfold Dat.share; split <;> rfl)
    (V₁ m) (V₂ m) (fun c b hb => V₂_else m c fun h => (Finset.mem_sdiff.mp (Finset.mem_sdiff.mp hb).1).2 (h ▸ result_in_win))
    (Tk m) (fun c => semVal (barCell c) 0) (Xk m) (fun c => semVal (barCell c) 0) (region_open m) (region_in m) (region_out m)
    (fun c => by iintro H; imodintro; iexact H)
    (fun _ => 0) (level_cut m) (fun _ => iprop(emp))
    (fun _ _ => rfl) (arrays_out m)

theorem region_pre (c : Dev nD) : iprop(StableHlo.held (c : Thread nD τ) bufs (V₁ m c) ∗ rider m c) ⊢ (region m).pre c := by
  show _ ⊢ iprop(StableHlo.held (c.tc : Thread nD τ) (winBufs) (V₁ m c) ∗ (∃ r, prngReg c r)
    ∗ (StableHlo.held (c.tc : Thread nD τ) (others) (V₁ m c) ∗ emp) ∗ Tk m c ∗ ∃ Wd, owes (c : Thread nD τ) (0 + O₀ c) Wd)
  rw [zero_add, StableHlo.held_sub_split _ winBufs_sub]
  unfold rider owing
  iintro ⟨⟨Hw, Ho⟩, HT, Hp, HO⟩
  isplitl [Hw]; · iexact Hw
  isplitl [Hp]; · iexact Hp
  isplitl [Ho]
  · isplitl [Ho]; · iexact Ho
    iempintro
  isplitl [HT] <;> iassumption

/-- A device's end: its buffers at the exit's contents, its barrier at zero. -/
def ending (c : Dev nD) : sProp 𝕄 := iprop(StableHlo.held (c : Thread nD τ) bufs (V₂ m c) ∗ semVal (barCell c) 0)

theorem region_post (c : Dev nD) : (region m).post c
    ⊢ iprop(ending m c ∗ ∃ W, owes (c : Thread nD τ) (0 : CellTallies nD τ sig Unit) W) := by
  show iprop(StableHlo.held (c.tc : Thread nD τ) (winBufs) (V₂ m c) ∗ (∃ r, prngReg c r)
    ∗ (StableHlo.held (c.tc : Thread nD τ) (others) (V₂ m c) ∗ emp) ∗ semVal (barCell c) 0
    ∗ ∃ Wd, owes (c : Thread nD τ) (0 : CellTallies nD τ sig Unit) Wd) ⊢ _
  unfold ending
  rw [StableHlo.held_sub_split _ winBufs_sub]
  iintro ⟨Hw, -, ⟨Ho, -⟩, Hb, HO⟩
  isplitr [HO]
  · isplitr [Hb]
    · isplitl [Hw] <;> iassumption
    iexact Hb
  iexact HO

/-! ## The program as its segments -/

/-- The host operations before the kernel, the protocol's share riding along. -/
def host : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V₀ m) (rider m)

def segs : List (Pipeline.Seg (pcfgs (F := F)) adm (pdats m) () defs₀ 𝒱₀ L lv) := [.host (host m), .region (region m)]

theorem main_eq (c : Dev nD) : main (F := F) c = Pipeline.Seg.run (segs m) := main_segs adm (pdats m) () 𝒱₀ L lv (host m) (region m) rfl c

/-! ## The cells and the tokens dealt at launch -/

theorem osem_inj : Function.Injective osem := by decide
theorem osem_ne_bar : ∀ k : Fin 6 ⊕ Fin 6, osem k ≠ .reg barS := by decide

def barEmb : Dev nD ↪ GSem nD τ sig := ⟨fun c => barCell c, fun _ _ h => congrArg (fun g : GSem nD τ sig => g.1.1) h⟩
def ownEmb : Dev nD × (Fin 6 ⊕ Fin 6) ↪ GSem nD τ sig :=
  ⟨fun ck => ((ck.1 : Thread nD τ), osem ck.2), fun _ _ h =>
    Prod.ext (congrArg (fun g : GSem nD τ sig => g.1.1) h) (osem_inj (congrArg Prod.snd h))⟩

/-- The barriers, funded with their counters; the send and receive cells, to be opened by the kernel. -/
abbrev barCells : Finset (GSem nD τ sig) := Finset.univ.map barEmb
abbrev ownCells : Finset (GSem nD τ sig) := Finset.univ.map ownEmb

/-- The duties of one device's cells: three at its barrier, one at each of its other cells. -/
abbrev duty : Fin 3 ⊕ (Fin 6 ⊕ Fin 6) → SemLoc sig × Fin 3 := fun
  | .inl j => (.reg barS, j) | .inr k => (osem k, 0)
theorem duty_inj : Function.Injective duty := by decide
def dutyEmb : Dev nD × (Fin 3 ⊕ (Fin 6 ⊕ Fin 6)) ↪ GSem nD τ sig × ℕ × Fin 3 :=
  ⟨fun ck => (((ck.1 : Thread nD τ), (duty ck.2).1), 0, (duty ck.2).2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩
abbrev duties : Finset (GSem nD τ sig × ℕ × Fin 3) := Finset.univ.map dutyEmb

theorem cells_apart : Disjoint barCells ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem kcell_mem (ck : Dev nD × CellIx) : kcell ck ∈ barCells ∪ ownCells := by
  obtain ⟨c, _ | k⟩ := ck
  · exact Finset.mem_union_left _ (Finset.mem_map_of_mem barEmb (Finset.mem_univ c))
  · have h : kcell (c, .inr k) = ownEmb (c, k) := by rcases k with k | k <;> rfl
    rw [h]; exact Finset.mem_union_right _ (Finset.mem_map_of_mem ownEmb (Finset.mem_univ (c, k)))

/-- The launch's resources: the pipeline's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The protocol's launch resource, kept by device 0 until all is dealt at once. -/
def protoOwn : sProp 𝕄 := BI.own (ER (launchOf barCells ownCells duties))
def G (c : Dev nD) : sProp 𝕄 := if c = 0 then protoOwn else iprop(emp)

omit [FloatOps F] in
theorem G_eq : bigSep Finset.univ (G (F := F)) = protoOwn := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The dealing -/

section Deal

omit [FloatOps F] in
theorem deal_at : bigSep barCells (fun g => (atPos ER g 0 ∅ 0 : sProp 𝕄)) = bigSep Finset.univ fun c : Dev nD => atPos ER (barCell c) 0 ∅ 0 :=
  bigSep_map (s := Finset.univ) barEmb (Φ := fun g : GSem nD τ sig => (atPos ER g 0 ∅ 0 : sProp 𝕄))
omit [FloatOps F] in
theorem deal_reached : bigSep barCells (fun g => (reached ER g 0 : sProp 𝕄)) = bigSep Finset.univ fun c : Dev nD => reached ER (barCell c) 0 :=
  bigSep_map (s := Finset.univ) barEmb (Φ := fun g : GSem nD τ sig => (reached ER g 0 : sProp 𝕄))
omit [FloatOps F] in
theorem deal_sem : bigSep barCells (fun g => (semVal g 0 : sProp 𝕄)) = bigSep Finset.univ fun c : Dev nD => semVal (barCell c) 0 :=
  bigSep_map (s := Finset.univ) barEmb (Φ := fun g : GSem nD τ sig => (semVal g 0 : sProp 𝕄))

omit [FloatOps F] in
theorem deal_open : bigSep ownCells (fun g => (openTok ER g : sProp 𝕄))
    = bigSep Finset.univ fun c : Dev nD => iprop((bigSep Finset.univ fun k : Fin 6 => openTok ER (sendCell k c)) ∗ bigSep Finset.univ fun k : Fin 6 => openTok ER (recvCell k c)) := by
  rw [bigSep_map, bigSep_univ_prod]
  exact bigSep_congr fun c _ => bigSep_univ_sum (fun k : Fin 6 ⊕ Fin 6 => (openTok ER ((c : Thread nD τ), osem k) : sProp 𝕄))

/-- The tokens of one device's own cells. -/
def toks (c : Dev nD) : sProp 𝕄 :=
  iprop((bigSep Finset.univ fun j : Fin 3 => dutyTok ER (barCell c) 0 j)
    ∗ (bigSep Finset.univ fun k : Fin 6 => dutyTok ER (sendCell k c) 0 0) ∗ (bigSep Finset.univ fun k : Fin 6 => dutyTok ER (recvCell k c) 0 0))

omit [FloatOps F] in
theorem deal_toks : bigSep duties (fun x => (dutyTok ER x.1 x.2.1 x.2.2 : sProp 𝕄)) = bigSep Finset.univ fun c : Dev nD => toks c := by
  rw [bigSep_map, bigSep_univ_prod]
  refine bigSep_congr fun c _ => ?_
  unfold toks
  refine (bigSep_univ_sum _).trans (congrArg (BI.sep _) (bigSep_univ_sum _))

omit [FloatOps F] in
/-- A family over devices and another index, each device's entries handed across the bits `q`. -/
theorem across {J : Type} [Fintype J] [DecidableEq J] (q : J → Fin 3) (Φ : J → Dev nD → sProp 𝕄) :
    (bigSep Finset.univ fun c : Dev nD => bigSep Finset.univ fun j => Φ j c) ⊢ bigSep Finset.univ fun c : Dev nD => bigSep Finset.univ fun j => Φ j (pr (q j) c) := by
  rw [bigSep_univ_comm, bigSep_univ_comm (fun (c : Dev nD) j => Φ j (pr (q j) c))]
  exact each fun j => Entails.of_eq (bigSep_univ_equiv (prE (q j)) (fun c : Dev nD => Φ j c))

omit [FloatOps F] in
/-- The barrier's and the receive cells' tokens, each handed to the device that pays. -/
theorem toks_around : (bigSep Finset.univ fun c : Dev nD => (toks c : sProp 𝕄))
    ⊢ bigSep Finset.univ fun c : Dev nD => iprop((bigSep Finset.univ fun j : Fin 3 => dutyTok ER (barCell (pr j c)) 0 j)
      ∗ (bigSep Finset.univ fun k : Fin 6 => dutyTok ER (sendCell k c) 0 0) ∗ (bigSep Finset.univ fun k : Fin 6 => dutyTok ER (recvCell k (pr (pj k) c)) 0 0)) := by
  unfold toks
  rw [bigSep_sep', bigSep_sep', bigSep_sep', bigSep_sep']
  iintro ⟨Hb, Hs, Hv⟩
  isplitl [Hb]; · iapply (across (fun j : Fin 3 => j) (fun j c => (dutyTok ER (barCell c) 0 j : sProp 𝕄))); iexact Hb
  isplitl [Hs]; · iexact Hs
  iapply (across pj (fun k c => (dutyTok ER (recvCell k c) 0 0 : sProp 𝕄))); iexact Hv

omit [FloatOps F] in
theorem deal_creds (c : Dev nD) : (Pipeline.launchCred O₀ c : sProp 𝕄) ⊢ creds c := by
  have hB (j : Fin 3) : (Pipeline.launchCred (oweB j) c : sProp 𝕄) ⊢ cred (tallyAt (barCell c) () 1) :=
    Pipeline.launchCred_tallyAt (.reg barS) (pr j) (pr j) (pr_pr j) (pr_pr j) () 1 c
  have hR (k : Fin 6) : (Pipeline.launchCred (oweR k) c : sProp 𝕄) ⊢ cred (tallyAt (recvCell k c) () N) :=
    Pipeline.launchCred_tallyAt (.dma (recvS k)) (pr (pj k)) (pr (pj k)) (pr_pr _) (pr_pr _) () N c
  have h3 : iprop(cred (tallyAt (barCell c) () 1) ∗ cred (tallyAt (barCell c) () 1) ∗ cred (tallyAt (barCell c) () 1)) ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  show (Pipeline.launchCred (fun d => 0 + oweR 5 d + oweR 4 d + oweR 3 d + oweR 2 d + oweR 1 d + oweR 0 d + oweB 2 d + oweB 1 d + oweB 0 d) c : sProp 𝕄) ⊢ _
  unfold creds
  rw [Pipeline.launchCred_add, Pipeline.launchCred_add, Pipeline.launchCred_add, Pipeline.launchCred_add, Pipeline.launchCred_add, Pipeline.launchCred_add,
    Pipeline.launchCred_add, Pipeline.launchCred_add, Pipeline.launchCred_add, bigSep6]
  iintro ⟨⟨⟨⟨⟨⟨⟨⟨⟨-, R5⟩, R4⟩, R3⟩, R2⟩, R1⟩, R0⟩, B2⟩, B1⟩, B0⟩
  isplitl [B0 B1 B2]
  · iapply h3
    isplitl [B0]; · iapply (hB 0); iexact B0
    isplitl [B1]; · iapply (hB 1); iexact B1
    iapply (hB 2); iexact B2
  isplitl [R0]; · iapply (hR 0); iexact R0
  isplitl [R1]; · iapply (hR 1); iexact R1
  isplitl [R2]; · iapply (hR 2); iexact R2
  isplitl [R3]; · iapply (hR 3); iexact R3
  isplitl [R4]; · iapply (hR 4); iexact R4
  iapply (hR 5); iexact R5

end Deal

/-! ## The run -/

/-- What a device starts from. -/
def start (c : Dev nD) : sProp 𝕄 := iprop(StableHlo.held (c : Thread nD τ) bufs (V₀ m c) ∗ rider m c)
/-- What it starts from besides the protocol's tokens. -/
def bundle (c : Dev nD) : sProp 𝕄 :=
  iprop(StableHlo.held (c : Thread nD τ) bufs (V₀ m c) ∗ creds c ∗ owes (c : Thread nD τ) (O₀ c) ∅ ∗ ∃ r, prngReg c r)

theorem start_intro (K : GSem nD τ sig → ℕ) (c : Dev nD) : iprop(common m K ∗ (linear c ∗ bundle m c)) ⊢ start m c := by
  unfold bundle start rider Tk owing
  iintro ⟨#HR, Hl, Hh, Hc, HO, Hp⟩
  isplitl [Hh]; · iexact Hh
  isplitl [Hl Hc]
  · isplitr; · iexists K; iexact HR
    isplitl [Hl] <;> iassumption
  isplitl [Hp]; · iexact Hp
  iexists ∅; iexact HO

omit [FloatOps F] in
theorem barrier_sems (c : Dev nD) : (unscopedSems0 c : sProp 𝕄) = semVal (barCell c) 0 := by
  unfold unscopedSems0
  rw [show (Finset.univ.filter fun s : SemLoc sig => ¬ s.isScoped .tc = true) = {SemLoc.reg barS} from by decide, BI.bigSep_singleton]

theorem records_intro (K : GSem nD τ sig → ℕ) :
    (bigSep (barCells ∪ ownCells) fun g => (cellInv ER (Rd (shares (ins m))) (K g) g : sProp 𝕄)) ⊢ records (shares (ins m)) K := by
  have h (ck : Dev nD × CellIx) : (bigSep (barCells ∪ ownCells) fun g => (cellInv ER (Rd (shares (ins m))) (K g) g : sProp 𝕄))
      ⊢ cellInv ER (Rd (shares (ins m))) (K (kcell ck)) (kcell ck) := bigSep_elim (kcell_mem ck)
  unfold records
  exact bigSep_intro_persistent fun ck _ => h ck

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      barrier_sems]
    unfold bundle
    iintro ⟨Hh, Hus, HO, Hcr, Hp, HG⟩
    ihave Hc := (deal_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, -⟩
  ihave H' := (each hcore) $$ H
  ihave H2 := (Entails.of_eq (bigSep_sep' Finset.univ (fun c : Dev nD => bundle m c) (fun c => iprop(semVal (barCell c) 0 ∗ G c)))) $$ H'
  icases H2 with ⟨HB, H3⟩
  ihave H4 := (Entails.of_eq (bigSep_sep' Finset.univ (fun c : Dev nD => (semVal (barCell c) 0 : sProp 𝕄)) (fun c => G c))) $$ H3
  icases H4 with ⟨Hv, HG⟩
  ihave Hu := (Entails.of_eq (G_eq (F := F))) $$ HG
  imod (Rounds.fund_launch ER (Rd (shares (ins m))) cells_apart (fun g _ h => h) duties) $$ [Hv Hu] with ⟨%K, -, #Hinv, #Hr, Hat, Hopen, Htok⟩
  · isplitl [Hv]
    · iapply (Entails.of_eq (deal_sem (F := F)).symm); iexact Hv
    · unfold protoOwn; iexact Hu
  imodintro
  iapply (bigSep_with_persistent (R := common m K) (Φ := fun c => iprop(linear c ∗ bundle m c)) fun c _ => start_intro m K c)
  isplitr
  · unfold common
    isplitr; · iapply (records_intro m K); iexact Hinv
    iapply (Entails.of_eq (deal_reached (F := F))); iexact Hr
  iapply (both (fun c : Dev nD => (linear c : sProp 𝕄)) (fun c => bundle m c))
  isplitr [HB]
  · unfold linear
    iapply (both (fun c : Dev nD => (atPos ER (barCell c) 0 ∅ 0 : sProp 𝕄)) _)
    isplitl [Hat]; · iapply (Entails.of_eq (deal_at (F := F))); iexact Hat
    ihave Ho := (Entails.of_eq (deal_open (F := F))) $$ Hopen
    ihave Ho' := (Entails.of_eq (bigSep_sep' Finset.univ (fun c : Dev nD => (bigSep Finset.univ fun k : Fin 6 => openTok ER (sendCell k c) : sProp 𝕄))
      (fun c => bigSep Finset.univ fun k : Fin 6 => openTok ER (recvCell k c)))) $$ Ho
    icases Ho' with ⟨Hs, Hr'⟩
    iapply (both (fun c : Dev nD => (bigSep Finset.univ fun k : Fin 6 => openTok ER (sendCell k c) : sProp 𝕄)) _)
    isplitl [Hs]; · iexact Hs
    iapply (both (fun c : Dev nD => (bigSep Finset.univ fun k : Fin 6 => openTok ER (recvCell k c) : sProp 𝕄)) _)
    isplitl [Hr']; · iexact Hr'
    iapply (toks_around (F := F))
    iapply (Entails.of_eq (deal_toks (F := F))); iexact Htok
  · iexact HB

/-! ## What the end's memory holds -/

section End
variable (c : Dev nD)

/-- The buffers of a device, one by one. -/
theorem bufs_eq (W : Valuation τ sig (Elt F)) : (StableHlo.held (c : Thread nD τ) bufs W : sProp 𝕄)
    = iprop(own1 c main_arg0 (W main_arg0) ∗ own1 c main_arg1 (W main_arg1) ∗ own1 c main_arg2 (W main_arg2) ∗ own1 c main_arg3 (W main_arg3)
      ∗ own1 c main_arg4 (W main_arg4) ∗ own1 c main_v1 (W main_v1) ∗ own1 c main_v2 (W main_v2) ∗ own1 c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

end End

/-- A device's arguments are as launched, its result the kernel's. -/
def Kept (s : (ℓ : Loc nD τ sig) → Buf (Elt F) ℓ) (c : Dev nD) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_v3) = resArr m c

theorem V₂_arg0 (c : Dev nD) : V₂ m c main_arg0 = m ((c : Thread nD τ).loc main_arg0) := (V₂_else m c (by decide)).trans (V_main_arg0 m c)
theorem V₂_arg1 (c : Dev nD) : V₂ m c main_arg1 = m ((c : Thread nD τ).loc main_arg1) := (V₂_else m c (by decide)).trans (V_main_arg1 m c)
theorem V₂_arg2 (c : Dev nD) : V₂ m c main_arg2 = m ((c : Thread nD τ).loc main_arg2) := (V₂_else m c (by decide)).trans (V_main_arg2 m c)
theorem V₂_arg3 (c : Dev nD) : V₂ m c main_arg3 = m ((c : Thread nD τ).loc main_arg3) := (V₂_else m c (by decide)).trans (V_main_arg3 m c)
theorem V₂_arg4 (c : Dev nD) : V₂ m c main_arg4 = m ((c : Thread nD τ).loc main_arg4) := (V₂_else m c (by decide)).trans (V_main_arg4 m c)

theorem only_barrier : ∀ sm : SemLoc sig, sm.isScoped .tc = false → sm = .reg barS := by decide

set_option backward.isDefEq.respectTransparency.types false in
/-- THE RUN: from any memory with zero counters, every fair execution of the program on the eight devices ends, and at every
    end each device's arguments are unchanged, its result is what the region's data says, and every semaphore is at zero. -/
theorem run_main : θ_run defs (onTc (τ := τ) (main (F := F))) (s₀ m ρ) (fun r => (∀ c : Dev nD, Kept m r.2.mem c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; unfold protoOwn; iexact HX)
    (T₀ := start m) (Tₙ := ending m)
    (hch := ⟨fun c => .rfl, fun c => region_pre m c, fun c => region_post m c⟩)
    (hinit := init m ρ)
    (QY := fun c s => Kept m s.mem c ∧ s.sem (barCell c) = 0)
    (hfin := fun c s' => by
      unfold ending
      rw [bufs_eq]
      unfold own1
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨(Buf.eq_of_forall_mem_univ h0).trans (V₂_arg0 m c), (Buf.eq_of_forall_mem_univ h1).trans (V₂_arg1 m c),
          (Buf.eq_of_forall_mem_univ h2).trans (V₂_arg2 m c), (Buf.eq_of_forall_mem_univ h3).trans (V₂_arg3 m c),
          (Buf.eq_of_forall_mem_univ h4).trans (V₂_arg4 m c), (Buf.eq_of_forall_mem_univ h5).trans (V₂_result m c)⟩, by simpa using hb⟩
      iexact HSI)
    (hQ := fun s h hs => ⟨fun c => (h c).1,
      sem_eq_zero hs fun c sm hsm => by
        obtain rfl := only_barrier sm hsm
        exact (h c).2⟩)

end Cert.KernelIdeal.Hand
-- ==== Proof.Frames.lean ====
/- The claims that say nothing of values: every run ends, keeps its arguments and leaves every counter at zero. -/
module

public import proofs.«01_k».proof.Defs
public import proofs.«01_k».proof.Proof.LaunchKernel
public import proofs.«01_k».proof.Proof.LaunchKernelIdeal
public import proofs.«01_k».proof.Proof.Gen.ReferenceIdeal.Run

@[expose] public section

noncomputable section

namespace Cert.Proof

open Idealize.ShloMosaic Idealize.SL.Sem

/-- The kernel on bits ends with its arguments kept and its counters at zero: the run's statement with the
    result's contents dropped. -/
theorem frame_kernel : Cert.quiescent_Kernel (hKernel := Cert.Kernel.Gen.facts) := fun m ρ _ =>
  (θ_run Cert.Kernel.defs _ _).mono (fun _ h => ⟨fun c =>
    let k := h.1 c
    ⟨k.1, k.2.1, k.2.2.1, k.2.2.2.1, k.2.2.2.2.1⟩, h.2⟩)
    (Cert.Kernel.Hand.run_main (F := Bits) m ρ)

/-- The kernel in exact arithmetic, likewise. -/
theorem frame_ideal : Cert.quiescent_KernelIdeal (hKernelIdeal := Cert.KernelIdeal.Gen.facts) := fun m ρ _ =>
  (θ_run Cert.KernelIdeal.defs _ _).mono (fun _ h => ⟨fun c =>
    let k := h.1 c
    ⟨k.1, k.2.1, k.2.2.1, k.2.2.2.1, k.2.2.2.2.1⟩, h.2⟩)
    (Cert.KernelIdeal.Hand.run_main (F := Ideal) m ρ)

/-- The reference is a straight line of host operations and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      sem_eq_zero_of_no_sems (by decide) r.2⟩)
    (Cert.ReferenceIdeal.Value.run (F := Ideal) m ρ)

end Cert.Proof

end
-- ==== Proof.Softmax.lean ====
module

public import Idealize.ShloMosaic.Lib.Pointwise

@[expose] public section

noncomputable section

namespace Cert.Attn
open Idealize.ShloMosaic

/-! # The mathematics of the claim

A softmax whose weights are divided out after the values are summed, with no maximum subtracted, is the softmax whose weights are divided first.
The scores must be real; the values may be anything. -/

/-- Query block `q` sees key block `k`: the same block, the first block, or a sum divisible by three. -/
def sees (q k : ℕ) : Bool := q == k || k == 0 || (q + k) % 3 == 0

/-- Column `d` of head `h`, among the 256 columns of all four heads. -/
abbrev hd (h : Fin 4) (d : Fin 64) : Fin 256 := ⟨64 * h.val + d.val, by omega⟩

/-- Key `j` of device `c`, among the 2048 keys of all eight. -/
abbrev key (c : Fin 8) (j : Fin 256) : Fin 2048 := ⟨256 * c.val + j.val, by omega⟩

/-- A sum over all columns is one over heads and columns within a head. -/
theorem sum_hd {M : Type*} [AddCommMonoid M] (f : Fin 256 → M) : ∑ a, f a = ∑ h : Fin 4, ∑ d : Fin 64, f (hd h d) := by
  rw [← Fintype.sum_prod_type' fun h d => f (hd h d)]
  refine (Fintype.sum_equiv (finProdFinEquiv (m := 4) (n := 64)) _ _ fun x => congrArg f (Fin.ext ?_)).symm
  show 64 * x.1.val + x.2.val = x.2.val + 64 * x.1.val
  omega

/-- A sum over all keys is one over devices and keys within a device. -/
theorem sum_key {M : Type*} [AddCommMonoid M] (f : Fin 2048 → M) : ∑ a, f a = ∑ c : Fin 8, ∑ j : Fin 256, f (key c j) := by
  rw [← Fintype.sum_prod_type' fun c j => f (key c j)]
  refine (Fintype.sum_equiv (finProdFinEquiv (m := 8) (n := 256)) _ _ fun x => congrArg f (Fin.ext ?_)).symm
  show 256 * x.1.val + x.2.val = x.2.val + 256 * x.1.val
  omega

/-- An extended real that is a real number. -/
def IsReal (a : EReal) : Prop := ∃ r : ℝ, (r : EReal) = a

theorem IsReal.mul {a b : EReal} : IsReal a → IsReal b → IsReal (a * b)
  | ⟨r, hr⟩, ⟨s, hs⟩ => ⟨r * s, by rw [← hr, ← hs, EReal.coe_mul]⟩

theorem IsReal.add {a b : EReal} : IsReal a → IsReal b → IsReal (a + b)
  | ⟨r, hr⟩, ⟨s, hs⟩ => ⟨r + s, by rw [← hr, ← hs, EReal.coe_add]⟩

theorem IsReal.sum {ι : Type*} (s : Finset ι) (f : ι → EReal) (h : ∀ i, IsReal (f i)) : IsReal (∑ i ∈ s, f i) :=
  Finset.sum_induction f IsReal (fun _ _ => IsReal.add) ⟨0, rfl⟩ fun i _ => h i

theorem IsReal.select {a b : EReal} (c : BitVec 1) (ha : IsReal a) (hb : IsReal b) : IsReal (Scalar.select c a b) := by
  unfold Scalar.select
  split <;> assumption

/-- A 32-bit float word whose exponent is not all ones denotes a real. -/
theorem IsReal.ofBits (b : BitVec 32) (h : (b.extractLsb' 23 8).toNat ≠ 2 ^ 8 - 1) : IsReal (Ideal.ofBits .f32 b) := by
  unfold Ideal.ofBits Ideal.ieee
  dsimp only
  rw [if_neg h]
  split <;> exact ⟨_, rfl⟩

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- An extended real whose magnitude is below infinity is real. -/
theorem IsReal.of_abs {a : EReal} (h : max a (-a) < ⊤) : IsReal a := by
  induction a with
  | bot => simp at h
  | top => simp at h
  | coe r => exact ⟨r, rfl⟩

/-- The largest of a nonempty family of reals, starting from `⊥`, is real. -/
theorem IsReal.foldMax {ι : Type*} [Fintype ι] [Nonempty ι] (f : ι → EReal) (h : ∀ i, IsReal (f i)) : IsReal (Finset.univ.fold max ⊥ f) := by
  have hs : Finset.univ.fold max ⊥ f = Finset.univ.sup f := rfl
  obtain ⟨i, -, hi⟩ := Finset.exists_mem_eq_sup Finset.univ Finset.univ_nonempty f
  rw [hs, hi]
  exact h i

/-- A real factor that is not negative distributes over a sum of extended reals. -/
theorem sum_mul_real {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) (r : ℝ) (hr : r ≠ 0) : Ideal.div x (r : EReal) = x * ((r⁻¹ : ℝ) : EReal) := by
  rw [Ideal.div, if_neg (by exact_mod_cast hr), EReal.coe_inv]

/-- THE SOFTMAX: the values weighted by `exp (s j - M)` over their sum, against the values weighted by `exp (s j)` and divided at the end. -/
theorem softmax {ι : Type*} [Fintype ι] [Nonempty ι] (s v : ι → EReal) (M : EReal) (hs : ∀ j, IsReal (s j)) (hM : IsReal M) :
    ∑ j, v j * Ideal.div (Ideal.exp (s j - M)) (∑ k, Ideal.exp (s k - M)) = Ideal.div (∑ j, Ideal.exp (s j) * v j) (∑ k, Ideal.exp (s k)) := by
  choose t ht using hs
  obtain ⟨m, rfl⟩ := hM
  obtain rfl : (fun j => (t j : EReal)) = s := funext ht
  have hpos : 0 < ∑ k, Real.exp (t k) := Finset.sum_pos (fun k _ => Real.exp_pos _) Finset.univ_nonempty
  have e1 : ∀ j, Ideal.exp ((t j : EReal) - (m : EReal)) = ((Real.exp (t j) * (Real.exp m)⁻¹ : ℝ) : EReal) := fun j => by
    rw [← EReal.coe_sub, ← div_eq_mul_inv, ← Real.exp_sub]
    rfl
  have e2 : ∀ j, Ideal.exp (t j : EReal) = ((Real.exp (t j) : ℝ) : EReal) := fun j => rfl
  simp only [e1, e2]
  rw [← coe_sum, ← coe_sum, ← Finset.sum_mul, div_real _ _ hpos.ne', sum_mul_real _ _ _ (inv_nonneg.mpr hpos.le)]
  refine Finset.sum_congr rfl fun j _ => ?_
  rw [div_real _ _ (mul_pos hpos (inv_pos.mpr (Real.exp_pos m))).ne', ← EReal.coe_mul, mul_comm (_ : EReal) (v j), mul_assoc (v j), ← EReal.coe_mul]
  congr 2
  have := (Real.exp_pos m).ne'
  field_simp

end Cert.Attn
-- ==== Proof.ValueShare.lean ====
module

public import proofs.«01_k».proof.Proof.OutKernelIdeal
public import proofs.«01_k».proof.Proof.Softmax
public import Idealize.ShloMosaic.Lib.Pointwise
public import Idealize.ShloMosaic.Lib.Pointwise.IndexBridge

@[expose] public section

set_option maxRecDepth 16384

noncomputable section

namespace Cert.KernelIdeal.Hand
open Cert.KernelIdeal Cert.KernelIdeal.Gen
open Idealize.ShloMosaic
open Cert.Attn

variable (I : Ins Ideal) (c : Dev nD)

/-- The operands' elements, by their coordinates. -/
def xv (b : Fin 2) (i : Fin 256) (e : Fin 512) : EReal := I.x (ix3 b i e : S2x256x512.Idx)
def qv (e : Fin 512) (a : Fin 256) : EReal := I.q (ix2 e a : S512x256.Idx)
def kv (b : Fin 2) (j a : Fin 256) : EReal := I.k (ix3 b j a : S2x256x256.Idx)
def vv (b : Fin 2) (j a : Fin 256) : EReal := I.v (ix3 b j a : S2x256x256.Idx)
def ov (a : Fin 256) (e : Fin 512) : EReal := I.o (ix2 a e : S256x512.Idx)

/-- A unit rectangle of a rank-3 array, at an index. -/
theorem rect3 {n0 n1 n2 m0 m1 m2 o0 o1 o2 : ℕ} (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2) (ha : a'.val = o0 + a.val) (hb : b'.val = o1 + b.val) (hc : c'.val = o2 + c.val) :
    (Rect.unit (s := ⟨3, ![n0, n1, n2]⟩) ![o0, o1, o2] ![m0, m1, m2] inb).emb (ix3 a b c : (⟨3, ![m0, m1, m2]⟩ : Shape).Idx) = ix3 a' b' c' := by
  refine funext (Fin.forall_fin_succ.mpr ⟨?_, Fin.forall_fin_two.mpr ⟨?_, ?_⟩⟩) <;> apply Fin.ext
  · show o0 + 1 * a.val = a'.val
    omega
  · show o1 + 1 * b.val = b'.val
    omega
  · show o2 + 1 * c.val = c'.val
    omega

/-- A unit rectangle of a rank-2 array, at an index. -/
theorem rect2 {n0 n1 m0 m1 o0 o1 : ℕ} (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    (Rect.unit (s := ⟨2, ![n0, n1]⟩) ![o0, o1] ![m0, m1] inb).emb (ix2 a b : (⟨2, ![m0, m1]⟩ : Shape).Idx) = ix2 a' b' := by
  refine funext (Fin.forall_fin_two.mpr ⟨?_, ?_⟩) <;> apply Fin.ext
  · show o0 + 1 * a.val = a'.val
    omega
  · show o1 + 1 * b.val = b'.val
    omega

/-! The loads of the body, at an index. -/

theorem x0_apply (i : Fin 256) (e : Fin 512) : x0 I (ix3 0 i e) = xv I 0 i e :=
  congrArg I.x (rect3 inb_S2x256x512_S1x256x512_0_0_0 0 i e 0 i e rfl (by simp) (by simp))
theorem x1_apply (i : Fin 256) (e : Fin 512) : x1 I (ix3 0 i e) = xv I 1 i e :=
  congrArg I.x (rect3 inb_S2x256x512_S1x256x512_1_0_0 0 i e 1 i e rfl (by simp) (by simp))
theorem wq_apply (e : Fin 512) (a : Fin 256) : wq I (ix2 e a) = qv I e a :=
  congrArg I.q (rect2 inb_S512x256_S512x256_0_0 e a e a (by simp) (by simp))
theorem k0_apply (j a : Fin 256) : k0 I (ix3 0 j a) = kv I 0 j a :=
  congrArg I.k (rect3 inb_S2x256x256_S1x256x256_0_0_0 0 j a 0 j a rfl (by simp) (by simp))
theorem k1_apply (j a : Fin 256) : k1 I (ix3 0 j a) = kv I 1 j a :=
  congrArg I.k (rect3 inb_S2x256x256_S1x256x256_1_0_0 0 j a 1 j a rfl (by simp) (by simp))
theorem v0_apply (j a : Fin 256) : v0 I (ix3 0 j a) = vv I 0 j a :=
  congrArg I.v (rect3 inb_S2x256x256_S1x256x256_0_0_0 0 j a 0 j a rfl (by simp) (by simp))
theorem v1_apply (j a : Fin 256) : v1 I (ix3 0 j a) = vv I 1 j a :=
  congrArg I.v (rect3 inb_S2x256x256_S1x256x256_1_0_0 0 j a 1 j a rfl (by simp) (by simp))
theorem w0_apply (d : Fin 64) (e : Fin 512) : w0 I (ix2 d e) = ov I (hd 0 d) e :=
  congrArg I.o (rect2 inb_S256x512_S64x512_0_0 d e (hd 0 d) e (by simp) (by simp))
theorem w1_apply (d : Fin 64) (e : Fin 512) : w1 I (ix2 d e) = ov I (hd 1 d) e :=
  congrArg I.o (rect2 inb_S256x512_S64x512_64_0 d e (hd 1 d) e (by simp) (by simp))
theorem w2_apply (d : Fin 64) (e : Fin 512) : w2 I (ix2 d e) = ov I (hd 2 d) e :=
  congrArg I.o (rect2 inb_S256x512_S64x512_128_0 d e (hd 2 d) e (by simp) (by simp))
theorem w3_apply (d : Fin 64) (e : Fin 512) : w3 I (ix2 d e) = ov I (hd 3 d) e :=
  congrArg I.o (rect2 inb_S256x512_S64x512_192_0 d e (hd 3 d) e (by simp) (by simp))

/-- The scaled score of key `j` for query `i`, head `h` of batch `b`. -/
def score (b : Fin 2) (h : Fin 4) (i j : Fin 256) : EReal :=
  (∑ d : Fin 64, (∑ e : Fin 512, xv I b i e * qv I e (hd h d)) * kv I b j (hd h d)) * Ideal.ofBits .f32 0x3E000000#32

/-- The unnormalised weight of key `j` for query `i`. -/
def wgt (b : Fin 2) (h : Fin 4) (i j : Fin 256) : EReal :=
  Ideal.exp (Scalar.select (keep c (ix2 i j)) (score I b h i j) (Ideal.ofBits .f32 0xCE6E6B28#32))

/-- The columns a slice at offset `64 h` reads are head `h`'s. -/
theorem hd_zero (d : Fin 64) (h : d.val < 256) : (⟨d.val, h⟩ : Fin 256) = hd 0 d := Fin.ext (by simp)
theorem hd_one (d : Fin 64) (h : 64 + d.val < 256) : (⟨64 + d.val, h⟩ : Fin 256) = hd 1 d := rfl
theorem hd_two (d : Fin 64) (h : 128 + d.val < 256) : (⟨128 + d.val, h⟩ : Fin 256) = hd 2 d := rfl
theorem hd_three (d : Fin 64) (h : 192 + d.val < 256) : (⟨192 + d.val, h⟩ : Fin 256) = hd 3 d := rfl

/-- Batch 0's contexts are the weighted sums of the values. -/
theorem ctx0_apply (h : Fin 4) (i : Fin 256) (d : Fin 64) :
    ctx0 I c h (ix3 0 i d) = ∑ j : Fin 256, wgt I c 0 h i j * vv I 0 j (hd h d) := by
  revert h
  refine Fin.forall_fin_succ.mpr ⟨?_, Fin.forall_fin_succ.mpr ⟨?_, Fin.forall_fin_two.mpr ⟨?_, ?_⟩⟩⟩
  · show k0_pay17 (k0_pay16 (m69 c) m72 (m74 c) (m76 c) k0_pay11 (x0 I) (wq I) (k0 I) (v0 I)) (ix3 0 i d) = _
    pointwise [wgt, keep, score, k0_pay17, k0_pay16, k0_pay14, k0_pay13]
    simp only [x0_apply, wq_apply, k0_apply, v0_apply, hd_zero]
  · show k0_pay20 (keep c) (q0 I) (k0 I) (v0 I) (ix3 0 i d) = _
    pointwise [wgt, score, q0, k0_pay20, k0_pay19, k0_pay13]
    simp only [x0_apply, wq_apply, k0_apply, v0_apply, hd_one]
    rfl
  · show k0_pay24 (keep c) (k0_pay22 (q0 I)) (k0 I) (v0 I) (ix3 0 i d) = _
    pointwise [wgt, score, q0, k0_pay24, k0_pay23, k0_pay22, k0_pay13]
    simp only [x0_apply, wq_apply, k0_apply, v0_apply, hd_two]
    rfl
  · show k0_pay28 (k0_pay26 (keep c) (q0 I) (k0 I)) (v0 I) (ix3 0 i d) = _
    pointwise [wgt, score, q0, k0_pay28, k0_pay26, k0_pay13]
    simp only [x0_apply, wq_apply, k0_apply, v0_apply, hd_three]
    rfl

/-- Batch 0's weight sums. -/
theorem sum0_apply (h : Fin 4) (i : Fin 256) : sum0 I c h (ix3 0 i 0) = ∑ j : Fin 256, wgt I c 0 h i j := by
  revert h
  refine Fin.forall_fin_succ.mpr ⟨?_, Fin.forall_fin_succ.mpr ⟨?_, Fin.forall_fin_two.mpr ⟨?_, ?_⟩⟩⟩
  · show k0_pay18 (k0_pay15 (m69 c) m72 (m74 c) (m76 c) k0_pay11 (x0 I) (wq I) (k0 I)) (ix3 0 i 0) = _
    pointwise [wgt, keep, score, k0_pay18, k0_pay15, k0_pay14, k0_pay13]
    simp only [x0_apply, wq_apply, k0_apply, hd_zero]
  · show k0_pay21 (keep c) (q0 I) (k0 I) (ix3 0 i 0) = _
    pointwise [wgt, score, q0, k0_pay21, k0_pay19, k0_pay13]
    simp only [x0_apply, wq_apply, k0_apply, hd_one]
    rfl
  · show k0_pay25 (keep c) (k0_pay22 (q0 I)) (k0 I) (ix3 0 i 0) = _
    pointwise [wgt, score, q0, k0_pay25, k0_pay23, k0_pay22, k0_pay13]
    simp only [x0_apply, wq_apply, k0_apply, hd_two]
    rfl
  · show k0_pay29 (k0_pay27 (keep c) (q0 I) (k0 I)) (ix3 0 i 0) = _
    pointwise [wgt, score, q0, k0_pay29, k0_pay27, k0_pay26, k0_pay13]
    simp only [x0_apply, wq_apply, k0_apply, hd_three]
    rfl

/-- Batch 1's contexts. -/
theorem ctx1_apply (h : Fin 4) (i : Fin 256) (d : Fin 64) :
    ctx1 I c h (ix3 0 i d) = ∑ j : Fin 256, wgt I c 1 h i j * vv I 1 j (hd h d) := by
  revert h
  refine Fin.forall_fin_succ.mpr ⟨?_, Fin.forall_fin_succ.mpr ⟨?_, Fin.forall_fin_two.mpr ⟨?_, ?_⟩⟩⟩
  · show k0_pay34 (keep c) (k0_pay30 (x1 I)) (k0_pay31 (wq I)) (k1 I) (v1 I) (ix3 0 i d) = _
    pointwise [wgt, score, k0_pay30, k0_pay31, k0_pay32, k0_pay33, k0_pay34]
    simp only [x1_apply, wq_apply, k1_apply, v1_apply, hd_zero]
  · show k0_pay38 (keep c) (k0_pay36 (k0_pay30 (x1 I)) (k0_pay31 (wq I)) (k1 I)) (v1 I) (ix3 0 i d) = _
    pointwise [wgt, score, k0_pay30, k0_pay31, k0_pay32, k0_pay36, k0_pay37, k0_pay38]
    simp only [x1_apply, wq_apply, k1_apply, v1_apply, hd_one]
    rfl
  · show k0_pay44 (k0_pay42 (v1 I)) (k0_pay43 (keep c) (q1 I) (k1 I)) (constant S256x64 .f32 0x00000000#32) (ix3 0 i d) = _
    pointwise [wgt, score, q1, k0_pay30, k0_pay31, k0_pay32, k0_pay40, k0_pay41, k0_pay42, k0_pay43, k0_pay44]
    simp only [x1_apply, wq_apply, k1_apply, v1_apply, hd_two]
    rfl
  · show k0_pay47 (keep c) (q1 I) (k1 I) (v1 I) (ix3 0 i d) = _
    pointwise [wgt, score, q1, k0_pay30, k0_pay31, k0_pay32, k0_pay46, k0_pay47]
    simp only [x1_apply, wq_apply, k1_apply, v1_apply, hd_three]
    rfl

/-- Batch 1's weight sums. -/
theorem sum1_apply (h : Fin 4) (i : Fin 256) : sum1 I c h (ix3 0 i 0) = ∑ j : Fin 256, wgt I c 1 h i j := by
  revert h
  refine Fin.forall_fin_succ.mpr ⟨?_, Fin.forall_fin_succ.mpr ⟨?_, Fin.forall_fin_two.mpr ⟨?_, ?_⟩⟩⟩
  · show k0_pay35 (keep c) (k0_pay30 (x1 I)) (k0_pay31 (wq I)) (k1 I) (ix3 0 i 0) = _
    pointwise [wgt, score, k0_pay30, k0_pay31, k0_pay32, k0_pay33, k0_pay35]
    simp only [x1_apply, wq_apply, k1_apply, hd_zero]
  · show k0_pay39 (keep c) (k0_pay36 (k0_pay30 (x1 I)) (k0_pay31 (wq I)) (k1 I)) (ix3 0 i 0) = _
    pointwise [wgt, score, k0_pay30, k0_pay31, k0_pay32, k0_pay36, k0_pay37, k0_pay39]
    simp only [x1_apply, wq_apply, k1_apply, hd_one]
    rfl
  · show k0_pay45 (k0_pay41 (keep c) (q1 I) (k1 I)) (ix3 0 i 0) = _
    pointwise [wgt, score, q1, k0_pay30, k0_pay31, k0_pay32, k0_pay40, k0_pay41, k0_pay45]
    simp only [x1_apply, wq_apply, k1_apply, hd_two]
    rfl
  · show k0_pay49 (k0_pay48 (keep c) (q1 I) (k1 I)) (ix3 0 i 0) = _
    pointwise [wgt, score, q1, k0_pay30, k0_pay31, k0_pay32, k0_pay46, k0_pay48, k0_pay49]
    simp only [x1_apply, wq_apply, k1_apply, hd_three]
    rfl

/-- The device's block: columns 0 to 255 hold the contexts of the four heads. -/
theorem blk_ctx (b : Fin 2) (h : Fin 4) (i : Fin 256) (d : Fin 64) (j : Fin 260) (hj : j.val = 64 * h.val + d.val) :
    blk I c b i j = ∑ k : Fin 256, wgt I c b h i k * vv I b k (hd h d) := by
  have hlt : j.val < 256 := by omega
  have e1 : (⟨j.val / 64, by omega⟩ : Fin 4) = h := Fin.ext (by show j.val / 64 = h.val; omega)
  have e2 : (⟨j.val % 64, Nat.mod_lt _ (by decide)⟩ : Fin 64) = d := Fin.ext (by show j.val % 64 = d.val; omega)
  obtain rfl | rfl : b = 0 ∨ b = 1 := by omega
  · rw [← ctx0_apply I c h i d]
    show blkOf (ctx0 I c) (sum0 I c) i j = _
    rw [blkOf, dif_pos hlt, e1, e2, ix3_eq_valueIdx]
  · rw [← ctx1_apply I c h i d]
    show blkOf (ctx1 I c) (sum1 I c) i j = _
    rw [blkOf, dif_pos hlt, e1, e2, ix3_eq_valueIdx]

/-- The device's block: columns 256 to 259 hold the weight sums. -/
theorem blk_sum (b : Fin 2) (h : Fin 4) (i : Fin 256) (j : Fin 260) (hj : j.val = 256 + h.val) :
    blk I c b i j = ∑ k : Fin 256, wgt I c b h i k := by
  have hlt : ¬ j.val < 256 := by omega
  have e1 : (⟨j.val - 256, by have := j.isLt; omega⟩ : Fin 4) = h := Fin.ext (by show j.val - 256 = h.val; omega)
  obtain rfl | rfl : b = 0 ∨ b = 1 := by omega
  · rw [← sum0_apply I c h i]
    show blkOf (ctx0 I c) (sum0 I c) i j = _
    rw [blkOf, dif_neg hlt, e1, ix3_eq_valueIdx]
  · rw [← sum1_apply I c h i]
    show blkOf (ctx1 I c) (sum1 I c) i j = _
    rw [blkOf, dif_neg hlt, e1, ix3_eq_valueIdx]

end Cert.KernelIdeal.Hand
-- ==== Proof.ValueMask.lean ====
module

public import proofs.«01_k».proof.Proof.ValueShare

@[expose] public section

set_option maxRecDepth 16384

noncomputable section

namespace Cert.KernelIdeal.Hand
open Cert.KernelIdeal Cert.KernelIdeal.Gen
open Idealize.ShloMosaic
open Cert.Attn

/-- A query's block, as the kernel's words compute it. -/
theorem rowBlk (i j : Fin 256) : k0_pay6 k0_pay2 k0_pay3 k0_pay4 k0_pay5 (ix2 i j) = BitVec.ofNat 32 (i.val / 64) := by
  pointwise [k0_pay6, k0_pay2, k0_pay3, k0_pay4, k0_pay5]
  clear j
  revert i
  decide +kernel

/-- A key's block among all the devices' keys: each device holds four blocks. -/
theorem colBlk (c : Dev nD) (i j : Fin 256) : k0_pay7 (dw c) (ix2 i j) = BitVec.ofNat 32 (4 * c.val + j.val / 64) := by
  pointwise [k0_pay7, dw]
  clear i
  revert c j
  decide +kernel

/-- The kernel's mask is `sees` of the two blocks. -/
theorem keep_apply (c : Dev nD) (i j : Fin 256) : keep c (ix2 i j) = BitVec.ofBool (sees (i.val / 64) (4 * c.val + j.val / 64)) := by
  pointwise [keep, m69, m72, m74, m76, k0_pay12, k0_pay11, k0_pay10, k0_pay9, k0_pay8]
  rw [rowBlk, colBlk]
  have hc : c.val < 8 := c.isLt
  obtain ⟨q, hq⟩ : ∃ q : Fin 4, q.val = i.val / 64 := ⟨⟨i.val / 64, by omega⟩, rfl⟩
  obtain ⟨k, hk⟩ : ∃ k : Fin 32, k.val = 4 * c.val + j.val / 64 := ⟨⟨4 * c.val + j.val / 64, by omega⟩, rfl⟩
  rw [← hq, ← hk]
  clear hq hk hc i j c
  revert q k
  decide +kernel

/-! ## The exchange, as a sum over the devices -/

/-- Eight values met in pairs across three different bits come to their sum, whichever place one starts from. -/
theorem eight (g : Dev nD → EReal) (b : Fin 2) (c : Dev nD) :
    ((g c + g (pr (bitOf b 0) c)) + (g (pr (bitOf b 1) c) + g (pr (bitOf b 0) (pr (bitOf b 1) c))))
      + ((g (pr (bitOf b 2) c) + g (pr (bitOf b 0) (pr (bitOf b 2) c)))
        + (g (pr (bitOf b 1) (pr (bitOf b 2) c)) + g (pr (bitOf b 0) (pr (bitOf b 1) (pr (bitOf b 2) c))))) = ∑ e : Dev nD, g e := by
  have hp : ∀ (b : Fin 2) (c : Dev nD), List.Perm [c, pr (bitOf b 0) c, pr (bitOf b 1) c, pr (bitOf b 0) (pr (bitOf b 1) c), pr (bitOf b 2) c,
      pr (bitOf b 0) (pr (bitOf b 2) c), pr (bitOf b 1) (pr (bitOf b 2) c), pr (bitOf b 0) (pr (bitOf b 1) (pr (bitOf b 2) c))] (List.finRange 8) := by
    decide +kernel
  rw [show (∑ e : Dev nD, g e) = ((List.finRange 8).map g).sum from Fin.sum_univ_def g, ← ((hp b c).map g).sum_eq]
  simp only [List.map_cons, List.map_nil, List.sum_cons, List.sum_nil, add_zero, add_assoc]

/-- After the three steps a device holds the sum of the eight devices' blocks. -/
theorem part_sum (B : Fin 2 → Dev nD → Blk Ideal) (b : Fin 2) (c : Dev nD) (i : Fin 256) (j : Fin 260) :
    part B b 3 c i j = ∑ e : Dev nD, (B b e i j : EReal) :=
  eight (fun e => (B b e i j : EReal)) b c

/-! ## The last step -/

variable (I : Ins Ideal)

/-- The output row: each head's contexts over its weights, through that head's rows of the projection, summed over heads. -/
def outRow (X : Blk Ideal) (i : Fin 256) (e : Fin 512) : EReal :=
  ∑ h : Fin 4, ∑ d : Fin 64, Ideal.div (X i ⟨64 * h.val + d.val, by omega⟩) (X i ⟨256 + h.val, by omega⟩) * ov I (hd h d) e

theorem row0_apply (X : Blk Ideal) (i : Fin 256) (e : Fin 512) : row0 I X (ix3 0 i e) = outRow I X i e := by
  pointwise [row0, k0_pay57, k0_pay55, k0_pay56, outRow, ctxOf, sumOf]
  simp only [w0_apply, w1_apply, w2_apply, w3_apply]
  rw [Fin.sum_univ_four]
  rfl

theorem row1_apply (X : Blk Ideal) (i : Fin 256) (e : Fin 512) : row1 I X (ix3 0 i e) = outRow I X i e := by
  pointwise [row1, k0_pay1, k0_pay59, k0_pay60, k0_pay61, outRow, ctxOf, sumOf]
  simp only [w0_apply, w1_apply, w2_apply, w3_apply]
  rw [Fin.sum_univ_four]
  rfl

theorem outAt_apply (X : Fin 2 → Blk Ideal) (b : Fin 2) (i : Fin 256) (e : Fin 512) :
    outAt I (X 0) (X 1) (ix3 b i e : S2x256x512.Idx) = outRow I (X b) i e := by
  obtain rfl | rfl : b = 0 ∨ b = 1 := by omega
  · exact (congrArg (row0 I (X 0)) (ix3_eq_valueIdx 0 i e).symm).trans (row0_apply I (X 0) i e)
  · exact (congrArg (row1 I (X 1)) (ix3_eq_valueIdx 0 i e).symm).trans (row1_apply I (X 1) i e)

end Cert.KernelIdeal.Hand
-- ==== Proof.ValueArrays.lean ====
module

public import proofs.«01_k».proof.Proof.LaunchKernelIdeal
public import proofs.«01_k».proof.Proof.ValueMask
public import Idealize.ShloMosaic.Lib.Pipeline.ValueKit

@[expose] public section

set_option maxRecDepth 16384

noncomputable section

namespace Cert.KernelIdeal.Hand
open Cert.KernelIdeal Cert.KernelIdeal.Gen
open Idealize.ShloMosaic
open Idealize.ShloMosaic.TcCoe
open Cert.Attn

variable (m : (ℓ : Loc nD τ sig) → Buf (Elt Ideal) ℓ) (c : Dev nD)

/-- The result array ends with what the body left in its staging buffer. -/
theorem resArr_eq : resArr m c = res m c :=
  (dat m c).arrAt_eq_of_after_last 5 t0_0 (by decide +kernel) _ (fun j => rfl)

/-! The windows stage whole arrays. -/

theorem iblk0 : iblk m c 0 t0_0 = m ((c : Thread nD τ).loc main_arg0) := by
  rw [← V_main_arg0 m c]
  refine funext fun y => congrArg (V m c main_arg0) ?_
  blk_ext [(by decide +kernel : win0_0.index t0_0 = ![0, 0, 0])]
theorem iblk1 : iblk m c 1 t0_0 = m ((c : Thread nD τ).loc main_arg1) := by
  rw [← V_main_arg1 m c]
  refine funext fun y => congrArg (V m c main_arg1) ?_
  blk_ext [(by decide +kernel : win0_1.index t0_0 = ![0, 0])]
theorem iblk4 : iblk m c 4 t0_0 = m ((c : Thread nD τ).loc main_arg4) := by
  rw [← V_main_arg4 m c]
  refine funext fun y => congrArg (V m c main_arg4) ?_
  blk_ext [(by decide +kernel : win0_4.index t0_0 = ![0, 0])]

theorem V_v1 : V m c main_v1 = shapeCast S2x256x256 (m ((c : Thread nD τ).loc main_arg2)) shapeCasts_S2x256x4x64_S2x256x256 := by
  unfold V
  after_results
  rfl
theorem V_v2 : V m c main_v2 = shapeCast S2x256x256 (m ((c : Thread nD τ).loc main_arg3)) shapeCasts_S2x256x4x64_S2x256x256 := by
  unfold V
  after_results
  rfl

theorem iblk2 : iblk m c 2 t0_0 = shapeCast S2x256x256 (m ((c : Thread nD τ).loc main_arg2)) shapeCasts_S2x256x4x64_S2x256x256 := by
  rw [← V_v1 m c]
  refine funext fun y => congrArg (V m c main_v1) ?_
  blk_ext [(by decide +kernel : win0_2.index t0_0 = ![0, 0, 0])]
theorem iblk3 : iblk m c 3 t0_0 = shapeCast S2x256x256 (m ((c : Thread nD τ).loc main_arg3)) shapeCasts_S2x256x4x64_S2x256x256 := by
  rw [← V_v2 m c]
  refine funext fun y => congrArg (V m c main_v2) ?_
  blk_ext [(by decide +kernel : win0_3.index t0_0 = ![0, 0, 0])]

/-! The operands' elements, in the arguments as launched. -/

theorem xv_eq (b : Fin 2) (i : Fin 256) (e : Fin 512) : xv (ins m c) b i e = m ((c : Thread nD τ).loc main_arg0) (ix3 b i e : S2x256x512.Idx) :=
  congrFun (iblk0 m c) _
theorem qv_eq (e : Fin 512) (a : Fin 256) : qv (ins m c) e a = m ((c : Thread nD τ).loc main_arg1) (ix2 e a : S512x256.Idx) :=
  congrFun (iblk1 m c) _
theorem ov_eq (a : Fin 256) (e : Fin 512) : ov (ins m c) a e = m ((c : Thread nD τ).loc main_arg4) (ix2 a e : S256x512.Idx) :=
  congrFun (iblk4 m c) _

/-- The heads' axes merged, at a column of head `h`. -/
theorem merged (u : FVec Ideal S2x256x4x64 .bf16) (b : Fin 2) (j : Fin 256) (h : Fin 4) (d : Fin 64) :
    shapeCast S2x256x256 u shapeCasts_S2x256x4x64_S2x256x256 (ix3 b j (hd h d)) = u (ix4 b j h d) := by
  pointwise
  have e1 : (⟨(hd h d).val / 64, by omega⟩ : Fin 4) = h := Fin.ext (by show (64 * h.val + d.val) / 64 = h.val; omega)
  have e2 : (⟨(hd h d).val % 64, by omega⟩ : Fin 64) = d := Fin.ext (by show (64 * h.val + d.val) % 64 = d.val; omega)
  rw [e1, e2]

theorem kv_eq (b : Fin 2) (j : Fin 256) (h : Fin 4) (d : Fin 64) : kv (ins m c) b j (hd h d) = m ((c : Thread nD τ).loc main_arg2) (ix4 b j h d : S2x256x4x64.Idx) :=
  (congrFun (iblk2 m c) _).trans (merged _ b j h d)
theorem vv_eq (b : Fin 2) (j : Fin 256) (h : Fin 4) (d : Fin 64) : vv (ins m c) b j (hd h d) = m ((c : Thread nD τ).loc main_arg3) (ix4 b j h d : S2x256x4x64.Idx) :=
  (congrFun (iblk3 m c) _).trans (merged _ b j h d)

/-- A device's result at an index. -/
def rv (b : Fin 2) (i : Fin 256) (e : Fin 512) : EReal := res m c (ix3 b i e : S2x256x512.Idx)

/-- The kernel's result at an index: over all devices' keys, the weighted values over the weights, projected, summed over the heads. -/
theorem rv_apply (b : Fin 2) (i : Fin 256) (e : Fin 512) :
    rv m c b i e = ∑ h : Fin 4, ∑ d : Fin 64,
      Ideal.div (∑ c' : Dev nD, ∑ j : Fin 256, wgt (ins m c') c' b h i j * vv (ins m c') b j (hd h d))
        (∑ c' : Dev nD, ∑ j : Fin 256, wgt (ins m c') c' b h i j) * ov (ins m c) (hd h d) e := by
  have e1 : rv m c b i e = outRow (ins m c) (total (ins m) c b) i e := outAt_apply (ins m c) (fun b => total (ins m) c b) b i e
  rw [e1]
  unfold outRow
  refine Finset.sum_congr rfl fun h _ => Finset.sum_congr rfl fun d _ => ?_
  refine congrArg (· * _) (congrArg₂ Ideal.div ?_ ?_)
  · exact (part_sum _ b c i _).trans (Finset.sum_congr rfl fun c' _ => blk_ctx (ins m c') c' b h i d _ rfl)
  · exact (part_sum _ b c i _).trans (Finset.sum_congr rfl fun c' _ => blk_sum (ins m c') c' b h i _ rfl)

end Cert.KernelIdeal.Hand
-- ==== Proof.ValueReference.lean ====
module

public import proofs.«01_k».proof.Proof.Gen.ReferenceIdeal.Run
public import Idealize.ShloMosaic.Lib.Routing.OpsOrder
public import proofs.«01_k».proof.Proof.Softmax

@[expose] public section

set_option maxRecDepth 16384

noncomputable section

namespace Cert.ReferenceIdeal.Hand
open Cert.ReferenceIdeal Cert.ReferenceIdeal.Gen
open Idealize.ShloMosaic
open Cert.Attn

/-! # The reference, in stages -/

/-- Each query's block, and each key's. -/
def qblk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
def kblk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The modulus three, and the remainder of the two blocks' sum. -/
def three : IVec S_ 32 := select (cmpi .eq (id (constantI S_ 32 3#32)) (constantI S_ 32 0#32)) (constantI S_ 32 1#32) (id (constantI S_ 32 3#32))
def qAll : IVec S256x2048 32 := broadcastInDim S256x2048 ![0, 1] bcast_S256x1_S256x2048_0_1 (broadcastInDim S256x1 ![0] bcast_S256_S256x1_0 qblk)
def kAll : IVec S256x2048 32 := broadcastInDim S256x2048 ![0, 1] bcast_S1x2048_S256x2048_0_1 (broadcastInDim S1x2048 ![1] bcast_S2048_S1x2048_1 kblk)
def rem3 : IVec S256x2048 32 := Host.remsi (addi qAll kAll) (broadcastInDim S256x2048 ![] bcast_S_S256x2048 three)
def mod3 : IVec S256x2048 32 :=
  select (andi (cmpi .ne (cmpi .slt rem3 (broadcastInDim S256x2048 ![] bcast_S_S256x2048 (constantI S_ 32 0#32))) (broadcastInDim S256x2048 ![] bcast_S_S256x2048 (cmpi .slt three (constantI S_ 32 0#32)))) (cmpi .ne rem3 (broadcastInDim S256x2048 ![] bcast_S_S256x2048 (constantI S_ 32 0#32)))) (addi rem3 (broadcastInDim S256x2048 ![] bcast_S_S256x2048 three)) rem3

/-- The mask, and which queries see a key at all. -/
def mask : IVec S256x2048 1 :=
  ori (ori (cmpi .eq qAll kAll) (broadcastInDim S256x2048 ![0, 1] bcast_S1x2048_S256x2048_0_1 (cmpi .eq (broadcastInDim S1x2048 ![1] bcast_S2048_S1x2048_1 kblk) (broadcastInDim S1x2048 ![] bcast_S_S1x2048 (constantI S_ 32 0#32))))) (cmpi .eq mod3 (broadcastInDim S256x2048 ![] bcast_S_S256x2048 (constantI S_ 32 0#32)))
def rowKeep : IVec S256 1 := Host.reduce IntOp.ori mask (constantI S_ 1 0#1) reducesTo_S256x2048_S256_d1 h_S_

section
variable (X : FVec Ideal S2x256x512 .bf16) (Q : FVec Ideal S512x256 .bf16) (K V : FVec Ideal S2x2048x4x64 .bf16) (O : FVec Ideal S256x512 .bf16)

/-- The masked scores, the weights, the normalised weights, the contexts, the result. -/
def scores : FVec Ideal S2x4x256x2048 .f32 :=
  select (broadcastInDim S2x4x256x2048 ![0, 1, 2, 3] bcast_S1x1x256x2048_S2x4x256x2048_0_1_2_3 (broadcastInDim S1x1x256x2048 ![2, 3] bcast_S256x2048_S1x1x256x2048_2_3 mask)) (mulf (Host.dotGeneral dot_S2x256x4x64_S2x2048x4x64_S2x4x256x2048_3_3_1_1_02_02 none (shapeCast S2x256x4x64 (Host.dotGeneral dot_S2x256x512_S512x256_S2x256x256_2_0_01_1_n_n none (extf .f32 X bitsLt_bf16_f32) (extf .f32 Q bitsLt_bf16_f32)) shapeCasts_S2x256x256_S2x256x4x64) (extf .f32 K bitsLt_bf16_f32)) (broadcastInDim S2x4x256x2048 ![] bcast_S_S2x4x256x2048 (constant S_ .f32 0x3E000000#32))) (broadcastInDim S2x4x256x2048 ![] bcast_S_S2x4x256x2048 (id (constant S_ .f32 0xCE6E6B28#32)))
def top : FVec Ideal S2x4x256 .f32 := Host.reduce FloatOps.maximumf (scores X Q K) (constant S_ .f32 0xFF800000#32) reducesTo_S2x4x256x2048_S2x4x256_d3 h_S_
def weights : FVec Ideal S2x4x256x2048 .f32 :=
  Host.exp (subf (scores X Q K) (broadcastInDim S2x4x256x2048 ![0, 1, 2, 3] bcast_S2x4x256x1_S2x4x256x2048_0_1_2_3 (broadcastInDim S2x4x256x1 ![0, 1, 2] bcast_S2x4x256_S2x4x256x1_0_1_2 (top X Q K))))
def normed : FVec Ideal S2x4x256x2048 .f32 :=
  select (broadcastInDim S2x4x256x2048 ![0, 1, 2, 3] bcast_S1x1x256x1_S2x4x256x2048_0_1_2_3 (broadcastInDim S1x1x256x1 ![2] bcast_S256_S1x1x256x1_2 rowKeep)) (Host.divf (weights X Q K) (broadcastInDim S2x4x256x2048 ![0, 1, 2, 3] bcast_S2x4x256x1_S2x4x256x2048_0_1_2_3 (select (broadcastInDim S2x4x256x1 ![0, 1, 2, 3] bcast_S1x1x256x1_S2x4x256x1_0_1_2_3 (broadcastInDim S1x1x256x1 ![2] bcast_S256_S1x1x256x1_2 rowKeep)) (broadcastInDim S2x4x256x1 ![0, 1, 2] bcast_S2x4x256_S2x4x256x1_0_1_2 (Host.reduceAdd (weights X Q K) (constant S_ .f32 0x00000000#32) reducesTo_S2x4x256x2048_S2x4x256_d3 h_S_)) (broadcastInDim S2x4x256x1 ![] bcast_S_S2x4x256x1 (id (constant S_ .f32 0x3F800000#32)))))) (broadcastInDim S2x4x256x2048 ![] bcast_S_S2x4x256x2048 (id (constant S_ .f32 0x00000000#32)))
def result : FVec Ideal S2x256x512 .f32 :=
  Host.dotGeneral dot_S2x256x256_S256x512_S2x256x512_2_0_01_1_n_n none (shapeCast S2x256x256 (transpose S2x256x4x64 [0, 3, 1, 2] (Host.dotGeneral dot_S2x2048x4x64_S2x4x256x2048_S2x4x64x256_1_3_3_2_02_01 none (extf .f32 V bitsLt_bf16_f32) (normed X Q K)) transposes_S2x4x64x256_S2x256x4x64_0_3_1_2) shapeCasts_S2x256x4x64_S2x256x256) (extf .f32 O bitsLt_bf16_f32)
end

/-- The generated run's result is these stages. -/
theorem res_eq (m : (ℓ : Loc nD τ sig) → Buf (Elt Ideal) ℓ) (c : Dev nD) :
    Cert.ReferenceIdeal.Value.res_main_v49 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index -/

theorem qblk_apply (i : Fin 256) : qblk (ix1 i) = BitVec.ofNat 32 (i.val / 64) := by
  pointwise [qblk]
  revert i
  decide +kernel

theorem kblk_apply (j : Fin 2048) : kblk (ix1 j) = BitVec.ofNat 32 (j.val / 64) := by
  pointwise [kblk]
  revert j
  decide +kernel

theorem mask_apply (i : Fin 256) (j : Fin 2048) : mask (ix2 i j) = BitVec.ofBool (sees (i.val / 64) (j.val / 64)) := by
  pointwise [mask, mod3, rem3, qAll, kAll, three]
  rw [qblk_apply, kblk_apply]
  obtain ⟨q, hq⟩ : ∃ q : Fin 4, q.val = i.val / 64 := ⟨⟨i.val / 64, by omega⟩, rfl⟩
  obtain ⟨k, hk⟩ : ∃ k : Fin 32, k.val = j.val / 64 := ⟨⟨j.val / 64, by omega⟩, rfl⟩
  rw [← hq, ← hk]
  clear hq hk i j
  revert q k
  decide +kernel

/-- Every query sees a key: the first block's. -/
theorem rowKeep_apply (i : Fin 256) : rowKeep (ix1 i) = 1#1 := by
  pointwise [rowKeep]
  rw [Routing.fold_ori]
  exact ⟨0, Finset.mem_univ _, by rw [mask_apply]; simp [sees]⟩

section
variable (X : FVec Ideal S2x256x512 .bf16) (Q : FVec Ideal S512x256 .bf16) (K V : FVec Ideal S2x2048x4x64 .bf16) (O : FVec Ideal S256x512 .bf16)

/-- The masked score of key `j` for query `i`, head `h` of batch `b`. -/
def sc (b : Fin 2) (h : Fin 4) (i : Fin 256) (j : Fin 2048) : EReal :=
  Scalar.select (BitVec.ofBool (sees (i.val / 64) (j.val / 64)))
    ((∑ d : Fin 64, (∑ e : Fin 512, (X (ix3 b i e) : EReal) * Q (ix2 e (hd h d))) * K (ix4 b j h d)) * Ideal.ofBits .f32 0x3E000000#32)
    (Ideal.ofBits .f32 0xCE6E6B28#32)

theorem scores_apply (b : Fin 2) (h : Fin 4) (i : Fin 256) (j : Fin 2048) : scores X Q K (ix4 b h i j) = sc X Q K b h i j := by
  pointwise [scores]
  rw [mask_apply]
  have e : ∀ d : Fin 64, (⟨h.val * 64 + d.val, by omega⟩ : Fin 256) = hd h d := fun d => Fin.ext (by show h.val * 64 + d.val = 64 * h.val + d.val; omega)
  simp only [e]
  rfl

theorem top_apply (b : Fin 2) (h : Fin 4) (i : Fin 256) : top X Q K (ix3 b h i) = Finset.univ.fold max ⊥ (sc X Q K b h i) := by
  pointwise [top]
  simp only [scores_apply, ofBits_neg_inf]

theorem normed_apply (b : Fin 2) (h : Fin 4) (i : Fin 256) (j : Fin 2048) :
    normed X Q K (ix4 b h i j) = Ideal.div (Ideal.exp (sc X Q K b h i j - Finset.univ.fold max ⊥ (sc X Q K b h i)))
      (∑ k, Ideal.exp (sc X Q K b h i k - Finset.univ.fold max ⊥ (sc X Q K b h i))) := by
  pointwise [normed, weights]
  simp only [scores_apply, top_apply, rowKeep_apply]
  rfl

/-- The scores of finite operands are real. -/
theorem sc_real (hX : ∀ j, IsReal (X j)) (hQ : ∀ j, IsReal (Q j)) (hK : ∀ j, IsReal (K j)) (b : Fin 2) (h : Fin 4) (i : Fin 256) (j : Fin 2048) :
    IsReal (sc X Q K b h i j) :=
  IsReal.select _ (.mul (.sum _ _ fun d => .mul (.sum _ _ fun e => .mul (hX _) (hQ _)) (hK _)) (.ofBits _ (by decide))) (.ofBits _ (by decide))

/-- Where the scores are real: the reference's result, with the weights divided out last and the keys taken device by device. -/
theorem result_apply (hX : ∀ j, IsReal (X j)) (hQ : ∀ j, IsReal (Q j)) (hK : ∀ j, IsReal (K j)) (b : Fin 2) (i : Fin 256) (e : Fin 512) :
    result X Q K V O (ix3 b i e) = ∑ h : Fin 4, ∑ d : Fin 64,
      Ideal.div (∑ c : Fin 8, ∑ j : Fin 256, Ideal.exp (sc X Q K b h i (key c j)) * (V (ix4 b (key c j) h d) : EReal))
        (∑ c : Fin 8, ∑ j : Fin 256, Ideal.exp (sc X Q K b h i (key c j))) * O (ix2 (hd h d) e) := by
  pointwise [result]
  rw [sum_hd]
  refine Finset.sum_congr rfl fun h _ => Finset.sum_congr rfl fun d _ => ?_
  have e1 : (⟨(hd h d).val / 64, by omega⟩ : Fin 4) = h := Fin.ext (by show (64 * h.val + d.val) / 64 = h.val; omega)
  have e2 : (⟨(hd h d).val % 64, by omega⟩ : Fin 64) = d := Fin.ext (by show (64 * h.val + d.val) % 64 = d.val; omega)
  rw [e1, e2, ← sum_key fun j => Ideal.exp (sc X Q K b h i j) * (V (ix4 b j h d) : EReal), ← sum_key fun j => Ideal.exp (sc X Q K b h i j)]
  simp only [normed_apply]
  rw [softmax (sc X Q K b h i) (fun j => V (ix4 b j h d)) _ (sc_real X Q K hX hQ hK b h i) (.foldMax _ (sc_real X Q K hX hQ hK b h i))]

end
end Cert.ReferenceIdeal.Hand
-- ==== Proof.Value.lean ====
/- The value claim: every device's result is the reference's. -/
module

public import proofs.«01_k».proof.Defs
public import proofs.«01_k».proof.Proof.ValueArrays
public import proofs.«01_k».proof.Proof.ValueReference

@[expose] public section

set_option maxRecDepth 16384

noncomputable section

namespace Cert.Proof
open Idealize.ShloMosaic Idealize.ShloMosaic.TcCoe Idealize.SL.Sem
open Cert.Attn

/-! ## The precondition, read -/

/-- The facts the precondition's shapes need, on the kernel's blocks and on the whole arrays. -/
theorem pre_kernel_facts : Cert.Pre_finite_scores_KernelIdeal.Facts :=
  ⟨by decide, by decide, by decide, by decide⟩
theorem pre_reference_facts : Cert.Pre_finite_scores_ReferenceIdeal.Facts :=
  ⟨by decide, by decide, by decide, by decide⟩

section
open Cert.Pre_finite_scores_KernelIdeal
attribute [local instance] pre_kernel_facts
variable (X : FVec Ideal S2x256x512 .bf16) (Q : FVec Ideal S512x256 .bf16) (K V : FVec Ideal S2x256x4x64 .bf16) (O : FVec Ideal S256x512 .bf16)

/-- A comparison of a magnitude with infinity that says yes: the element is a real. -/
theorem real_of_olt {a : EReal} (h : BitVec.ofBool (decide (max a (-a) < Ideal.ofBits .f32 0x7F800000#32)) = 1#1) : IsReal a := by
  rw [ofBits_inf] at h
  refine IsReal.of_abs ?_
  by_contra hn
  simp [hn] at h

/-- Where the predicate's three arrays are ones, the three operands of the scores are real everywhere. -/
theorem fn_real (h : (fn X Q K V O).1 = (fun _ => 1#1) ∧ (fn X Q K V O).2.1 = (fun _ => 1#1) ∧ (fn X Q K V O).2.2 = fun _ => 1#1) :
    (∀ j, IsReal (X j)) ∧ (∀ j, IsReal (Q j)) ∧ ∀ j, IsReal (K j) := by
  refine ⟨fun j => ?_, fun j => ?_, fun j => ?_⟩
  · have e := congrFun h.1 j
    unfold fn at e
    pointwise at e
    exact real_of_olt e
  · have e := congrFun h.2.1 j
    unfold fn at e
    pointwise at e
    exact real_of_olt e
  · have e := congrFun h.2.2 j
    unfold fn at e
    pointwise at e
    exact real_of_olt e
end

/-! ## A device's keys and values in the whole arrays -/

/-- Element `j` of device `c`'s block is element `key c j` of the whole array. -/
theorem block_key (u : FVec Ideal Cert.ReferenceIdeal.S2x2048x4x64 .bf16) (c : Fin 8) (b : Fin 2) (j : Fin 256) (h : Fin 4) (d : Fin 64) :
    (Layout.block ⟨4, ![2, 256, 4, 64]⟩ ⟨4, ![2, 2048, 4, 64]⟩ 1 8 c u) (ix4 b j h d) = u (ix4 b (key c j) h d) := by
  refine congrArg u (funext fun a => Fin.ext ?_)
  rw [Layout.Tiles.idx_val]
  fin_cases a
  · rfl
  · show c.val * 256 + j.val = 256 * c.val + j.val
    omega
  · rfl
  · rfl

/-- Every element of the whole array lies in some device's block. -/
theorem exists_block (y : Cert.ReferenceIdeal.S2x2048x4x64.Idx) : ∃ (c : Fin 8) (b : Fin 2) (j : Fin 256) (h : Fin 4) (d : Fin 64), y = ix4 b (key c j) h d := by
  have h1 : (y 1).val < 2048 := (y 1).isLt
  refine ⟨⟨(y 1).val / 256, by omega⟩, y 0, ⟨(y 1).val % 256, by omega⟩, y 2, y 3, funext fun a => Fin.ext ?_⟩
  fin_cases a
  · rfl
  · show (y 1).val = 256 * ((y 1).val / 256) + (y 1).val % 256
    omega
  · rfl
  · rfl

/-! ## The two results are one -/

section
variable (m : (ℓ : Loc Cert.KernelIdeal.nD Cert.KernelIdeal.τ Cert.KernelIdeal.sig) → Buf (Elt Ideal) ℓ)
variable (X : FVec Ideal Cert.ReferenceIdeal.S2x256x512 .bf16) (Q : FVec Ideal Cert.ReferenceIdeal.S512x256 .bf16)
  (K V : FVec Ideal Cert.ReferenceIdeal.S2x2048x4x64 .bf16) (O : FVec Ideal Cert.ReferenceIdeal.S256x512 .bf16)

open Cert.KernelIdeal (main_arg0 main_arg1 main_arg2 main_arg3 main_arg4 main_v3)
open Cert.KernelIdeal.Hand

/-- Each device holds its part of the whole arrays. -/
def Holds : Prop := ∀ c : Dev Cert.KernelIdeal.nD,
  m ((c : Thread Cert.KernelIdeal.nD Cert.KernelIdeal.τ).loc main_arg0) = X
  ∧ m ((c : Thread Cert.KernelIdeal.nD Cert.KernelIdeal.τ).loc main_arg1) = Q
  ∧ m ((c : Thread Cert.KernelIdeal.nD Cert.KernelIdeal.τ).loc main_arg2) = Layout.block ⟨4, ![2, 256, 4, 64]⟩ ⟨4, ![2, 2048, 4, 64]⟩ 1 8 c K
  ∧ m ((c : Thread Cert.KernelIdeal.nD Cert.KernelIdeal.τ).loc main_arg3) = Layout.block ⟨4, ![2, 256, 4, 64]⟩ ⟨4, ![2, 2048, 4, 64]⟩ 1 8 c V
  ∧ m ((c : Thread Cert.KernelIdeal.nD Cert.KernelIdeal.τ).loc main_arg4) = O

variable {m X Q K V O} (H : Holds m X Q K V O) (c : Dev Cert.KernelIdeal.nD)
include H

/-- A device's weight of its key `j` is the exponential of the reference's score of key `key c j`. -/
theorem wgt_key (b : Fin 2) (h : Fin 4) (i j : Fin 256) :
    wgt (ins m c) c b h i j = Ideal.exp (Cert.ReferenceIdeal.Hand.sc X Q K b h i (key c j)) := by
  obtain ⟨h0, h1, h2, -, -⟩ := H c
  have hx : ∀ e, xv (ins m c) b i e = X (ix3 b i e) := fun e => (xv_eq m c b i e).trans (congrFun h0 _)
  have hq : ∀ e a, qv (ins m c) e a = Q (ix2 e a) := fun e a => (qv_eq m c e a).trans (congrFun h1 _)
  have hk : ∀ d, kv (ins m c) b j (hd h d) = K (ix4 b (key c j) h d) := fun d =>
    ((kv_eq m c b j h d).trans (congrFun h2 _)).trans (block_key K c b j h d)
  have hb : 4 * c.val + j.val / 64 = (key c j).val / 64 := by
    show 4 * c.val + j.val / 64 = (256 * c.val + j.val) / 64
    omega
  unfold wgt score Cert.ReferenceIdeal.Hand.sc
  rw [keep_apply, hb]
  simp only [hx, hq, hk]

/-- A device's value of its key `j` is the value of key `key c j`. -/
theorem vv_key (b : Fin 2) (j : Fin 256) (h : Fin 4) (d : Fin 64) : vv (ins m c) b j (hd h d) = V (ix4 b (key c j) h d) :=
  ((vv_eq m c b j h d).trans (congrFun (H c).2.2.2.1 _)).trans (block_key V c b j h d)

/-- Where the operands of the scores are real, every device's result is the reference's. -/
theorem resArr_result (hX : ∀ j, IsReal (X j)) (hQ : ∀ j, IsReal (Q j)) (hK : ∀ j, IsReal (K j)) :
    resArr m c = Cert.ReferenceIdeal.Hand.result X Q K V O := by
  rw [resArr_eq]
  have e : ∀ b i e, rv m c b i e = Cert.ReferenceIdeal.Hand.result X Q K V O (ix3 b i e) := fun b i e => by
    rw [rv_apply, Cert.ReferenceIdeal.Hand.result_apply X Q K V O hX hQ hK]
    have ho : ∀ a, ov (ins m c) a e = O (ix2 a e) := fun a => (ov_eq m c a e).trans (congrFun (H c).2.2.2.2 _)
    simp only [fun c' b h i j => wgt_key H c' b h i j, fun c' b j h d => vv_key H c' b j h d, ho]
  refine funext fun y => ?_
  have hy : y = ix3 (y 0) (y 1) (y 2) := by
    funext a
    fin_cases a <;> rfl
  rw [hy]
  exact e _ _ _

end

/-- From memories that hold the same arrays, the operands of the scores finite: both run, and every device's result
    is the reference's. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_kernel_facts) := fun m g m' g' hp hm => by
  have hr := fun c => fn_real _ _ _ _ _ (hp c)
  have hX : ∀ j, IsReal (m' (((0 : Dev Cert.ReferenceIdeal.nD).tc : Thread Cert.ReferenceIdeal.nD Cert.ReferenceIdeal.τ).loc Cert.ReferenceIdeal.main_arg0) j) := fun j => by
    rw [← (hm 0).1]
    exact (hr 0).1 j
  have hQ : ∀ j, IsReal (m' (((0 : Dev Cert.ReferenceIdeal.nD).tc : Thread Cert.ReferenceIdeal.nD Cert.ReferenceIdeal.τ).loc Cert.ReferenceIdeal.main_arg1) j) := fun j => by
    rw [← (hm 0).2.1]
    exact (hr 0).2.1 j
  have hK : ∀ j, IsReal (m' (((0 : Dev Cert.ReferenceIdeal.nD).tc : Thread Cert.ReferenceIdeal.nD Cert.ReferenceIdeal.τ).loc Cert.ReferenceIdeal.main_arg2) j) := fun y => by
    obtain ⟨c, b, j, h, d, rfl⟩ := exists_block y
    have e := (hr c).2.2 (ix4 b j h d)
    rw [(hm c).2.2.1] at e
    rwa [block_key] at e
  refine ⟨Cert.ReferenceIdeal.Value.res_main_v49 m' 0, ?_, ?_⟩
  · refine (θ_run Cert.KernelIdeal.defs _ _).mono (fun r h c => ?_) (Cert.KernelIdeal.Hand.run_main (F := Ideal) m g)
    obtain ⟨k0, k1, k2, k3, k4, k5⟩ := h.1 c
    refine ⟨k5.trans ?_, k0, k1, k2, k3, k4⟩
    rw [Cert.ReferenceIdeal.Hand.res_eq]
    exact resArr_result hm c hX hQ hK
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Value

@[expose] public section

noncomputable section

namespace Cert.Proof

/-- Everything that is claimed: the three runs, from any memory and so from those the precondition admits; that
    reading the kernel in exact arithmetic rewrote nothing; and that its result is the reference's. -/
theorem claim : Cert.Claim :=
  ⟨Cert.Kernel.Gen.facts, Cert.KernelIdeal.Gen.facts, Cert.ReferenceIdeal.Gen.facts, pre_kernel_facts, pre_reference_facts,
    frame_kernel, frame_ideal, fun m ρ _ => frame_ideal m ρ trivial, frame_reference, fun m ρ _ => frame_reference m ρ trivial,
    trivial, algebraic⟩

end Cert.Proof

end
